-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_eps" .f32 0xC13834F1#32 ((Real.log (2748779 / 274877906944) : ℝ) : EReal)
  ∧ IdealRules.named_const.Statement Cert.KernelIdeal.κ "log_pdf" .f32 0xBF92857B#32 ((Real.log (87499100523 / 274877906944) : ℝ) : EReal)

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2097152, 2]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v13) i = v0 c i)
          ∧ (∀ i : (⟨1, ![2097152]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v14) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2097152, 2]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v137) i = v0 c i)
          ∧ (∀ i : (⟨1, ![2097152]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v178) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_unclipped (hKernelIdeal := hKernelIdeal) (hReferenceIdeal := hReferenceIdeal) (hOn_unclipped := hOn_unclipped)
-- ==== On_unclipped.lean ====
abbrev S2097152x6 : Shape := ⟨2, ![2097152, 6]⟩
abbrev S2097152x2 : Shape := ⟨2, ![2097152, 2]⟩
abbrev S6x32 : Shape := ⟨2, ![6, 32]⟩
abbrev S32 : Shape := ⟨1, ![32]⟩
abbrev S32x11 : Shape := ⟨2, ![32, 11]⟩
abbrev S11 : Shape := ⟨1, ![11]⟩
abbrev S_ : Shape := ⟨0, ![]⟩
abbrev S2097152x32 : Shape := ⟨2, ![2097152, 32]⟩
abbrev S1x32 : Shape := ⟨2, ![1, 32]⟩
abbrev S2097152x11 : Shape := ⟨2, ![2097152, 11]⟩
abbrev S1x11 : Shape := ⟨2, ![1, 11]⟩
abbrev S2097152 : Shape := ⟨1, ![2097152]⟩
abbrev S2097152x3 : Shape := ⟨2, ![2097152, 3]⟩
abbrev S2097152x1 : Shape := ⟨2, ![2097152, 1]⟩

class Facts : Prop where
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  bcast_S11_S1x11_1 : S11.BroadcastsInDim S1x11 (![1] : Fin 1 → Fin S1x11.rank)
  bcast_S1x11_S2097152x11_0_1 : S1x11.BroadcastsInDim S2097152x11 (![0, 1] : Fin 2 → Fin S2097152x11.rank)
  reducesTo_S2097152x11_S2097152_d1 : S2097152x11.ReducesTo [1] S2097152
  h_S_ : 0 < S_.numel
  bcast_S_S2097152 : S_.BroadcastsInDim S2097152 (![] : Fin 0 → Fin S2097152.rank)
  slices_S2097152x11_S2097152x3_0_8 : S2097152x11.Slices ![0, 8] S2097152x3
  reducesTo_S2097152x3_S2097152_d1 : S2097152x3.ReducesTo [1] S2097152
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  slices_S2097152x2_S2097152x1_0_0 : S2097152x2.Slices ![0, 0] S2097152x1
  shapeCasts_S2097152x1_S2097152 : S2097152x1.ShapeCasts S2097152
  bcast_S_S_ : S_.BroadcastsInDim S_ (![] : Fin 0 → Fin S_.rank)
  reduceWindows_S2097152x3_S2097152x3_w1s1p0_0_w3s1p2_0 : S2097152x3.ReduceWindows (![1, 3] : Fin 2 → Nat) ![1, 1] ![0, 2] ![0, 0] S2097152x3
  slices_S2097152x3_S2097152x1_0_0 : S2097152x3.Slices ![0, 0] S2097152x1
  slices_S2097152x3_S2097152x1_0_1 : S2097152x3.Slices ![0, 1] S2097152x1
  concatenates_S2097152x1_S2097152x1_S2097152x2_d1 : Shape.Concatenates [S2097152x1, S2097152x1] S2097152x2 1
  dot_S2097152x6_S6x32_S2097152x32_1_0_0_1_n_n_wf : DotDims.WF S2097152x6 S6x32 S2097152x32 [1] [0] [0] [1] [] []
  dot_S2097152x32_S32x11_S2097152x11_1_0_0_1_n_n_wf : DotDims.WF S2097152x32 S32x11 S2097152x11 [1] [0] [0] [1] [] []

variable [Facts]

def dot_S2097152x6_S6x32_S2097152x32_1_0_0_1_n_n : DotDims S2097152x6 S6x32 S2097152x32 where
  lhsContracting := [1]
  rhsContracting := [0]
  lhsNonContracting := [0]
  rhsNonContracting := [1]
  lhsBatch := []
  rhsBatch := []
  wf := dot_S2097152x6_S6x32_S2097152x32_1_0_0_1_n_n_wf
def dot_S2097152x32_S32x11_S2097152x11_1_0_0_1_n_n : DotDims S2097152x32 S32x11 S2097152x11 where
  lhsContracting := [1]
  rhsContracting := [0]
  lhsNonContracting := [0]
  rhsNonContracting := [1]
  lhsBatch := []
  rhsBatch := []
  wf := dot_S2097152x32_S32x11_S2097152x11_1_0_0_1_n_n_wf
def fn_cumsum_0 {F : FTy → Type} [FloatOps F] (arg0 : FVec F S2097152x3 .f32) : FVec F S2097152x3 .f32 :=
  let cst : FVec F S_ .f32 := constant S_ .f32 0x00000000#32
  let v0 : FVec F S_ .f32 := broadcastInDim S_ ![] bcast_S_S_ cst
  let v1 : FVec F S2097152x3 .f32 := (fun x v => Host.reduceWindowAdd ![1, 3] ![1, 1] ![0, 2] ![0, 0] x v reduceWindows_S2097152x3_S2097152x3_w1s1p0_0_w3s1p2_0 h_S_) arg0 v0
  v1

def fn_cumsum {F : FTy → Type} [FloatOps F] (arg0 : FVec F S2097152x3 .f32) : FVec F S2097152x3 .f32 :=
  let v0 : FVec F S2097152x3 .f32 := fn_cumsum_0 (F := F) arg0
  v0

def fn_where {F : FTy → Type} [FloatOps F] (arg0 : IVec S2097152 1) (arg1 : FVec F S2097152 .f32) (arg2 : FVec F S2097152 .f32) : FVec F S2097152 .f32 :=
  let v0 : FVec F S2097152 .f32 := select arg0 arg1 arg2
  v0

def fn_part2 {F : FTy → Type} [FloatOps F] (main_v13 : IVec S2097152 1) (main_v25 : IVec S2097152 1) (main_v30 : IVec S2097152 1) (main_v40 : FVec F S2097152 .f32) (main_v42 : IVec S2097152 1) : IVec S2097152x2 1 × IVec S2097152 1 :=
  let main_cst_4 : FVec F S_ .f32 := constant S_ .f32 0x3F7FFFFE#32
  let main_v43 : FVec F S2097152 .f32 := broadcastInDim S2097152 ![] bcast_S_S2097152 main_cst_4
  let main_v44 : IVec S2097152 1 := cmpf .ole main_v40 main_v43
  let main_v45 : IVec S2097152 1 := andi main_v42 main_v44
  let main_v46 : IVec S2097152 1 := ori main_v25 main_v30
  let main_v47 : IVec S2097152 1 := noti main_v46
  let main_v48 : IVec S2097152 1 := ori main_v47 main_v45
  let main_v49 : IVec S2097152x1 1 := broadcastInDim S2097152x1 ![0] bcast_S2097152_S2097152x1_0 main_v48
  let main_v50 : IVec S2097152x1 1 := broadcastInDim S2097152x1 ![0] bcast_S2097152_S2097152x1_0 main_v48
  let main_v51 : IVec S2097152x2 1 := (fun a b => concatenate S2097152x2 1 [⟨S2097152x1, a⟩, ⟨S2097152x1, b⟩] concatenates_S2097152x1_S2097152x1_S2097152x2_d1) main_v49 main_v50
  let main_v52 : IVec S2097152 1 := andi main_v13 main_v48
  (main_v51, main_v52)

def fn_part1 {F : FTy → Type} [FloatOps F] (main_arg1 : FVec F S2097152x2 .f32) (main_v13 : IVec S2097152 1) (main_v19 : FVec F S2097152x3 .f32) : IVec S2097152x2 1 × IVec S2097152 1 :=
  let main_v20 : FVec F S2097152x1 .f32 := (extractStridedSlice S2097152x1 ![0, 0] · slices_S2097152x2_S2097152x1_0_0) main_arg1
  let main_v21 : FVec F S2097152 .f32 := shapeCast S2097152 main_v20 shapeCasts_S2097152x1_S2097152
  let main_v22 : FVec F S2097152x3 .f32 := fn_cumsum (F := F) main_v19
  let main_v23 : FVec F S2097152x1 .f32 := (extractStridedSlice S2097152x1 ![0, 0] · slices_S2097152x3_S2097152x1_0_0) main_v22
  let main_v24 : FVec F S2097152 .f32 := shapeCast S2097152 main_v23 shapeCasts_S2097152x1_S2097152
  let main_v25 : IVec S2097152 1 := cmpf .olt main_v21 main_v24
  let main_v26 : IVec S2097152 1 := noti main_v25
  let main_v27 : FVec F S2097152x1 .f32 := (extractStridedSlice S2097152x1 ![0, 1] · slices_S2097152x3_S2097152x1_0_1) main_v22
  let main_v28 : FVec F S2097152 .f32 := shapeCast S2097152 main_v27 shapeCasts_S2097152x1_S2097152
  let main_v29 : IVec S2097152 1 := cmpf .olt main_v21 main_v28
  let main_v30 : IVec S2097152 1 := andi main_v26 main_v29
  let main_v31 : FVec F S2097152x1 .f32 := (extractStridedSlice S2097152x1 ![0, 0] · slices_S2097152x3_S2097152x1_0_0) main_v22
  let main_v32 : FVec F S2097152 .f32 := shapeCast S2097152 main_v31 shapeCasts_S2097152x1_S2097152
  let main_v33 : FVec F S2097152 .f32 := Host.divf main_v21 main_v32
  let main_v34 : FVec F S2097152x1 .f32 := (extractStridedSlice S2097152x1 ![0, 0] · slices_S2097152x3_S2097152x1_0_0) main_v22
  let main_v35 : FVec F S2097152 .f32 := shapeCast S2097152 main_v34 shapeCasts_S2097152x1_S2097152
  let main_v36 : FVec F S2097152 .f32 := subf main_v21 main_v35
  let main_v37 : FVec F S2097152x1 .f32 := (extractStridedSlice S2097152x1 ![0, 1] · slices_S2097152x3_S2097152x1_0_1) main_v19
  let main_v38 : FVec F S2097152 .f32 := shapeCast S2097152 main_v37 shapeCasts_S2097152x1_S2097152
  let main_v39 : FVec F S2097152 .f32 := Host.divf main_v36 main_v38
  let main_v40 : FVec F S2097152 .f32 := fn_where (F := F) main_v25 main_v33 main_v39
  let main_cst_3 : FVec F S_ .f32 := constant S_ .f32 0x2B8CBCCC#32
  let main_v41 : FVec F S2097152 .f32 := broadcastInDim S2097152 ![] bcast_S_S2097152 main_cst_3
  let main_v42 : IVec S2097152 1 := cmpf .oge main_v40 main_v41
  fn_part2 (F := F) main_v13 main_v25 main_v30 main_v40 main_v42

def fn {F : FTy → Type} [FloatOps F] (main_arg0 : FVec F S2097152x6 .f32) (main_arg1 : FVec F S2097152x2 .f32) (main_arg2 : FVec F S6x32 .f32) (main_arg3 : FVec F S32 .f32) (main_arg4 : FVec F S32x11 .f32) (main_arg5 : FVec F S11 .f32) (main_arg6 : IVec S_ 32) : IVec S2097152x2 1 × IVec S2097152 1 :=
  let main_v0 : FVec F S2097152x32 .f32 := (fun l r => Host.dotGeneral dot_S2097152x6_S6x32_S2097152x32_1_0_0_1_n_n none l r) main_arg0 main_arg2
  let main_v1 : FVec F S1x32 .f32 := broadcastInDim S1x32 ![1] bcast_S32_S1x32_1 main_arg3
  let main_v2 : FVec F S2097152x32 .f32 := broadcastInDim S2097152x32 ![0, 1] bcast_S1x32_S2097152x32_0_1 main_v1
  let main_v3 : FVec F S2097152x32 .f32 := addf main_v0 main_v2
  let main_cst : FVec F S_ .f32 := constant S_ .f32 0x00000000#32
  let main_v4 : FVec F S2097152x32 .f32 := broadcastInDim S2097152x32 ![] bcast_S_S2097152x32 main_cst
  let main_v5 : FVec F S2097152x32 .f32 := maximumf main_v3 main_v4
  let main_v6 : FVec F S2097152x11 .f32 := (fun l r => Host.dotGeneral dot_S2097152x32_S32x11_S2097152x11_1_0_0_1_n_n none l r) main_v5 main_arg4
  let main_v7 : FVec F S1x11 .f32 := broadcastInDim S1x11 ![1] bcast_S11_S1x11_1 main_arg5
  let main_v8 : FVec F S2097152x11 .f32 := broadcastInDim S2097152x11 ![0, 1] bcast_S1x11_S2097152x11_0_1 main_v7
  let main_v9 : FVec F S2097152x11 .f32 := addf main_v6 main_v8
  let main_v10 : FVec F S2097152x11 .f32 := Host.absf main_v9
  let main_cst_0 : FVec F S_ .f32 := constant S_ .f32 0x00000000#32
  let main_v11 : FVec F S2097152 .f32 := (fun x v => Host.reduceAdd x v reducesTo_S2097152x11_S2097152_d1 h_S_) main_v10 main_cst_0
  let main_cst_1 : FVec F S_ .f32 := constant S_ .f32 0x7F800000#32
  let main_v12 : FVec F S2097152 .f32 := broadcastInDim S2097152 ![] bcast_S_S2097152 main_cst_1
  let main_v13 : IVec S2097152 1 := cmpf .olt main_v11 main_v12
  let main_v14 : FVec F S2097152x3 .f32 := (extractStridedSlice S2097152x3 ![0, 8] · slices_S2097152x11_S2097152x3_0_8) main_v9
  let main_v15 : FVec F S2097152x3 .f32 := Host.absf main_v14
  let main_cst_2 : FVec F S_ .f32 := constant S_ .f32 0x00000000#32
  let main_v16 : FVec F S2097152 .f32 := (fun x v => Host.reduceAdd x v reducesTo_S2097152x3_S2097152_d1 h_S_) main_v15 main_cst_2
  let main_v17 : FVec F S2097152x1 .f32 := broadcastInDim S2097152x1 ![0] bcast_S2097152_S2097152x1_0 main_v16
  let main_v18 : FVec F S2097152x3 .f32 := broadcastInDim S2097152x3 ![0, 1] bcast_S2097152x1_S2097152x3_0_1 main_v17
  let main_v19 : FVec F S2097152x3 .f32 := Host.divf main_v15 main_v18
  fn_part1 (F := F) main_arg1 main_v13 main_v19
-- ==== Kernel.lean ====
abbrev S2097152x6 : Shape := ⟨2, ![2097152, 6]⟩
abbrev S2097152x2 : Shape := ⟨2, ![2097152, 2]⟩
abbrev S6x32 : Shape := ⟨2, ![6, 32]⟩
abbrev S32 : Shape := ⟨1, ![32]⟩
abbrev S32x11 : Shape := ⟨2, ![32, 11]⟩
abbrev S11 : Shape := ⟨1, ![11]⟩
abbrev S_ : Shape := ⟨0, ![]⟩
abbrev S6x2097152 : Shape := ⟨2, ![6, 2097152]⟩
abbrev S6x64x32768 : Shape := ⟨3, ![6, 64, 32768]⟩
abbrev S64x6x32768 : Shape := ⟨3, ![64, 6, 32768]⟩
abbrev S2x2097152 : Shape := ⟨2, ![2, 2097152]⟩
abbrev S2x64x256x128 : Shape := ⟨4, ![2, 64, 256, 128]⟩
abbrev S64x2x256x128 : Shape := ⟨4, ![64, 2, 256, 128]⟩
abbrev S32x6 : Shape := ⟨2, ![32, 6]⟩
abbrev S32x1 : Shape := ⟨2, ![32, 1]⟩
abbrev S11x32 : Shape := ⟨2, ![11, 32]⟩
abbrev S11x1 : Shape := ⟨2, ![11, 1]⟩
abbrev S64x256x128 : Shape := ⟨3, ![64, 256, 128]⟩
abbrev S1x6x32768 : Shape := ⟨3, ![1, 6, 32768]⟩
abbrev S1x2x256x128 : Shape := ⟨4, ![1, 2, 256, 128]⟩
abbrev S1x256x128 : Shape := ⟨3, ![1, 256, 128]⟩
abbrev S6x32768 : Shape := ⟨2, ![6, 32768]⟩
abbrev S32x32768 : Shape := ⟨2, ![32, 32768]⟩
abbrev S11x32768 : Shape := ⟨2, ![11, 32768]⟩
abbrev S1x32768 : Shape := ⟨2, ![1, 32768]⟩
abbrev S32768 : Shape := ⟨1, ![32768]⟩
abbrev S256x128 : Shape := ⟨2, ![256, 128]⟩
abbrev S1x1x256x128 : Shape := ⟨4, ![1, 1, 256, 128]⟩
abbrev S2097152 : Shape := ⟨1, ![2097152]⟩

abbrev nBuf : Space → Nat
  | .hbm => 23
  | .vmem => 12
  | .smem => 0
  | _ => 0

abbrev bufTy : (tb : Table) → Fin (tcTables nBuf tb) → BufTy
  | .hbm, ⟨0, _⟩ => ⟨S2097152x6, .f32⟩
  | .hbm, ⟨1, _⟩ => ⟨S2097152x2, .f32⟩
  | .hbm, ⟨2, _⟩ => ⟨S6x32, .f32⟩
  | .hbm, ⟨3, _⟩ => ⟨S32, .f32⟩
  | .hbm, ⟨4, _⟩ => ⟨S32x11, .f32⟩
  | .hbm, ⟨5, _⟩ => ⟨S11, .f32⟩
  | .hbm, ⟨6, _⟩ => ⟨S_, .i32⟩
  | .hbm, ⟨7, _⟩ => ⟨S6x2097152, .f32⟩
  | .hbm, ⟨8, _⟩ => ⟨S6x64x32768, .f32⟩
  | .hbm, ⟨9, _⟩ => ⟨S64x6x32768, .f32⟩
  | .hbm, ⟨10, _⟩ => ⟨S2x2097152, .f32⟩
  | .hbm, ⟨11, _⟩ => ⟨S2x64x256x128, .f32⟩
  | .hbm, ⟨12, _⟩ => ⟨S64x2x256x128, .f32⟩
  | .hbm, ⟨13, _⟩ => ⟨S32x6, .f32⟩
  | .hbm, ⟨14, _⟩ => ⟨S32x1, .f32⟩
  | .hbm, ⟨15, _⟩ => ⟨S11x32, .f32⟩
  | .hbm, ⟨16, _⟩ => ⟨S11x1, .f32⟩
  | .hbm, ⟨17, _⟩ => ⟨S64x2x256x128, .f32⟩
  | .hbm, ⟨18, _⟩ => ⟨S64x256x128, .f32⟩
  | .hbm, ⟨19, _⟩ => ⟨S2x64x256x128, .f32⟩
  | .hbm, ⟨20, _⟩ => ⟨S2x2097152, .f32⟩
  | .hbm, ⟨21, _⟩ => ⟨S2097152x2, .f32⟩
  | .hbm, ⟨22, _⟩ => ⟨S2097152, .f32⟩
  | .local _ .vmem, ⟨0, _⟩ => ⟨S1x6x32768, .f32⟩
  | .local _ .vmem, ⟨1, _⟩ => ⟨S1x6x32768, .f32⟩
  | .local _ .vmem, ⟨2, _⟩ => ⟨S1x2x256x128, .f32⟩
  | .local _ .vmem, ⟨3, _⟩ => ⟨S1x2x256x128, .f32⟩
  | .local _ .vmem, ⟨4, _⟩ => ⟨S32x6, .f32⟩
  | .local _ .vmem, ⟨5, _⟩ => ⟨S32x1, .f32⟩
  | .local _ .vmem, ⟨6, _⟩ => ⟨S11x32, .f32⟩
  | .local _ .vmem, ⟨7, _⟩ => ⟨S11x1, .f32⟩
  | .local _ .vmem, ⟨8, _⟩ => ⟨S1x2x256x128, .f32⟩
  | .local _ .vmem, ⟨9, _⟩ => ⟨S1x2x256x128, .f32⟩
  | .local _ .vmem, ⟨10, _⟩ => ⟨S1x256x128, .f32⟩
  | .local _ .vmem, ⟨11, _⟩ => ⟨S1x256x128, .f32⟩
  | _, _ => ⟨S2097152x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log_eps" => some ((Real.log (2748779 / 274877906944) : ℝ) : EReal)
  | "log_pdf" => some ((Real.log (87499100523 / 274877906944) : ℝ) : EReal)
  | _ => none
-- ==== ReferenceIdeal.lean ====
abbrev S2097152x6 : Shape := ⟨2, ![2097152, 6]⟩
abbrev S2097152x2 : Shape := ⟨2, ![2097152, 2]⟩
abbrev S6x32 : Shape := ⟨2, ![6, 32]⟩
abbrev S32 : Shape := ⟨1, ![32]⟩
abbrev S32x11 : Shape := ⟨2, ![32, 11]⟩
abbrev S11 : Shape := ⟨1, ![11]⟩
abbrev S_ : Shape := ⟨0, ![]⟩
abbrev S2097152x32 : Shape := ⟨2, ![2097152, 32]⟩
abbrev S1x32 : Shape := ⟨2, ![1, 32]⟩
abbrev S2097152x11 : Shape := ⟨2, ![2097152, 11]⟩
abbrev S1x11 : Shape := ⟨2, ![1, 11]⟩
abbrev S2097152x4 : Shape := ⟨2, ![2097152, 4]⟩
abbrev S2097152x2x2 : Shape := ⟨3, ![2097152, 2, 2]⟩
abbrev S2097152x3 : Shape := ⟨2, ![2097152, 3]⟩
abbrev S2097152 : Shape := ⟨1, ![2097152]⟩
abbrev S2097152x1 : Shape := ⟨2, ![2097152, 1]⟩
abbrev S2097152x1x2 : Shape := ⟨3, ![2097152, 1, 2]⟩

abbrev nBuf : Space → Nat
  | .hbm => 230
  | .vmem => 0
  | .smem => 0
  | _ => 0

abbrev hbmTy0_0 (i : Nat) : BufTy := match i % 128 with
  | 0 => ⟨S2097152x6, .f32⟩
  | 1 => ⟨S2097152x2, .f32⟩
  | 2 => ⟨S6x32, .f32⟩
  | 3 => ⟨S32, .f32⟩
  | 4 => ⟨S32x11, .f32⟩
  | 5 => ⟨S11, .f32⟩
  | 6 => ⟨S_, .i32⟩
  | 7 => ⟨S2097152x32, .f32⟩
  | 8 => ⟨S1x32, .f32⟩
  | 9 => ⟨S2097152x32, .f32⟩
  | 10 => ⟨S2097152x32, .f32⟩
  | 11 => ⟨S_, .f32⟩
  | 12 => ⟨S2097152x32, .f32⟩
  | 13 => ⟨S2097152x32, .f32⟩
  | 14 => ⟨S2097152x11, .f32⟩
  | 15 => ⟨S1x11, .f32⟩
  | 16 => ⟨S2097152x11, .f32⟩
  | 17 => ⟨S2097152x11, .f32⟩
  | 18 => ⟨S2097152x4, .f32⟩
  | 19 => ⟨S2097152x2x2, .f32⟩
  | 20 => ⟨S2097152x4, .f32⟩
  | 21 => ⟨S2097152x2x2, .f32⟩
  | 22 => ⟨S2097152x3, .f32⟩
  | 23 => ⟨S2097152x3, .f32⟩
  | 24 => ⟨S_, .f32⟩
  | 25 => ⟨S2097152, .f32⟩
  | 26 => ⟨S2097152x1, .f32⟩
  | 27 => ⟨S2097152x3, .f32⟩
  | 28 => ⟨S2097152x3, .f32⟩
  | 29 => ⟨S2097152x1, .f32⟩
  | 30 => ⟨S2097152, .f32⟩
  | 31 => ⟨S_, .f32⟩
  | 32 => ⟨S_, .f32⟩
  | 33 => ⟨S2097152x3, .f32⟩
  | 34 => ⟨S2097152x1, .f32⟩
  | 35 => ⟨S2097152, .f32⟩
  | 36 => ⟨S2097152, .i1⟩
  | 37 => ⟨S2097152, .i1⟩
  | 38 => ⟨S2097152x1, .f32⟩
  | 39 => ⟨S2097152, .f32⟩
  | 40 => ⟨S2097152, .i1⟩
  | 41 => ⟨S2097152, .i1⟩
  | 42 => ⟨S2097152, .i1⟩
  | 43 => ⟨S2097152, .i1⟩
  | 44 => ⟨S2097152x1, .f32⟩
  | 45 => ⟨S2097152, .f32⟩
  | 46 => ⟨S2097152, .f32⟩
  | 47 => ⟨S2097152x1, .f32⟩
  | 48 => ⟨S2097152, .f32⟩
  | 49 => ⟨S2097152, .f32⟩
  | 50 => ⟨S2097152x1, .f32⟩
  | 51 => ⟨S2097152, .f32⟩
  | 52 => ⟨S2097152, .f32⟩
  | 53 => ⟨S2097152x1, .f32⟩
  | 54 => ⟨S2097152, .f32⟩
  | 55 => ⟨S2097152, .f32⟩
  | 56 => ⟨S2097152x1, .f32⟩
  | 57 => ⟨S2097152, .f32⟩
  | 58 => ⟨S2097152, .f32⟩
  | 59 => ⟨S2097152, .f32⟩
  | 60 => ⟨S2097152, .f32⟩
  | 61 => ⟨S2097152x1, .f32⟩
  | 62 => ⟨S2097152, .f32⟩
  | 63 => ⟨S_, .f32⟩
  | 64 => ⟨S_, .f32⟩
  | 65 => ⟨S2097152, .f32⟩
  | 66 => ⟨S2097152, .f32⟩
  | 67 => ⟨S2097152, .f32⟩
  | 68 => ⟨S_, .f32⟩
  | 69 => ⟨S2097152, .f32⟩
  | 70 => ⟨S2097152, .f32⟩
  | 71 => ⟨S2097152, .f32⟩
  | 72 => ⟨S_, .f32⟩
  | 73 => ⟨S2097152, .f32⟩
  | 74 => ⟨S2097152, .f32⟩
  | 75 => ⟨S2097152, .f32⟩
  | 76 => ⟨S2097152, .f32⟩
  | 77 => ⟨S2097152, .f32⟩
  | 78 => ⟨S2097152, .f32⟩
  | 79 => ⟨S2097152x1, .f32⟩
  | 80 => ⟨S2097152x1, .f32⟩
  | 81 => ⟨S2097152x2, .f32⟩
  | 82 => ⟨S2097152x1, .i1⟩
  | 83 => ⟨S2097152x1x2, .f32⟩
  | 84 => ⟨S2097152x2, .f32⟩
  | 85 => ⟨S2097152x1x2, .f32⟩
  | 86 => ⟨S2097152x2, .f32⟩
  | 87 => ⟨S2097152x2, .i1⟩
  | 88 => ⟨S2097152x2, .f32⟩
  | 89 => ⟨S2097152x1, .i1⟩
  | 90 => ⟨S2097152x1x2, .f32⟩
  | 91 => ⟨S2097152x2, .f32⟩
  | 92 => ⟨S2097152x1x2, .f32⟩
  | 93 => ⟨S2097152x2, .f32⟩
  | 94 => ⟨S2097152x2, .i1⟩
  | 95 => ⟨S2097152x2, .f32⟩
  | 96 => ⟨S2097152x2, .f32⟩
  | 97 => ⟨S2097152x2, .f32⟩
  | 98 => ⟨S2097152x2, .f32⟩
  | 99 => ⟨S2097152x1, .f32⟩
  | 100 => ⟨S2097152x1, .f32⟩
  | 101 => ⟨S2097152x2, .f32⟩
  | 102 => ⟨S_, .f32⟩
  | 103 => ⟨S2097152x2, .f32⟩
  | 104 => ⟨S2097152x2, .f32⟩
  | 105 => ⟨S_, .f32⟩
  | 106 => ⟨S2097152x2, .f32⟩
  | 107 => ⟨S2097152x2, .f32⟩
  | 108 => ⟨S2097152x1, .f32⟩
  | 109 => ⟨S2097152, .f32⟩
  | 110 => ⟨S2097152x1, .f32⟩
  | 111 => ⟨S2097152, .f32⟩
  | 112 => ⟨S_, .f32⟩
  | 113 => ⟨S2097152, .f32⟩
  | 114 => ⟨S2097152, .i1⟩
  | 115 => ⟨S_, .f32⟩
  | 116 => ⟨S2097152, .f32⟩
  | 117 => ⟨S2097152, .i1⟩
  | 118 => ⟨S2097152, .i1⟩
  | 119 => ⟨S2097152, .i1⟩
  | 120 => ⟨S2097152, .f32⟩
  | 121 => ⟨S2097152, .f32⟩
  | 122 => ⟨S2097152, .i1⟩
  | 123 => ⟨S2097152, .i1⟩
  | 124 => ⟨S2097152, .i1⟩
  | 125 => ⟨S2097152, .i1⟩
  | 126 => ⟨S_, .f32⟩
  | 127 => ⟨S2097152, .f32⟩
  | _ => ⟨S2097152x6, .f32⟩

abbrev hbmTy0_1 (i : Nat) : BufTy := match i % 128 with
  | 0 => ⟨S2097152, .i1⟩
  | 1 => ⟨S_, .f32⟩
  | 2 => ⟨S_, .f32⟩
  | 3 => ⟨S2097152, .f32⟩
  | 4 => ⟨S2097152, .f32⟩
  | 5 => ⟨S_, .f32⟩
  | 6 => ⟨S2097152, .f32⟩
  | 7 => ⟨S2097152, .i1⟩
  | 8 => ⟨S_, .f32⟩
  | 9 => ⟨S_, .f32⟩
  | 10 => ⟨S2097152, .f32⟩
  | 11 => ⟨S2097152, .f32⟩
  | 12 => ⟨S_, .f32⟩
  | 13 => ⟨S2097152, .f32⟩
  | 14 => ⟨S2097152, .f32⟩
  | 15 => ⟨S2097152, .f32⟩
  | 16 => ⟨S2097152, .f32⟩
  | 17 => ⟨S2097152, .f32⟩
  | 18 => ⟨S2097152, .f32⟩
  | 19 => ⟨S2097152, .f32⟩
  | 20 => ⟨S2097152x1, .f32⟩
  | 21 => ⟨S2097152x1, .f32⟩
  | 22 => ⟨S2097152x2, .f32⟩
  | 23 => ⟨S_, .f32⟩
  | 24 => ⟨S2097152, .f32⟩
  | 25 => ⟨S2097152, .f32⟩
  | 26 => ⟨S2097152, .f32⟩
  | 27 => ⟨S_, .f32⟩
  | 28 => ⟨S2097152, .f32⟩
  | 29 => ⟨S2097152, .f32⟩
  | 30 => ⟨S2097152, .f32⟩
  | 31 => ⟨S2097152, .f32⟩
  | 32 => ⟨S2097152, .f32⟩
  | 33 => ⟨S2097152, .f32⟩
  | 34 => ⟨S2097152x1, .f32⟩
  | 35 => ⟨S2097152x1, .f32⟩
  | 36 => ⟨S2097152x2, .f32⟩
  | 37 => ⟨S2097152x1, .i1⟩
  | 38 => ⟨S2097152x1, .i1⟩
  | 39 => ⟨S_, .f32⟩
  | 40 => ⟨S_, .f32⟩
  | 41 => ⟨S2097152x2, .i1⟩
  | 42 => ⟨S2097152x2, .f32⟩
  | 43 => ⟨S2097152x2, .f32⟩
  | 44 => ⟨S2097152x2, .i1⟩
  | 45 => ⟨S2097152x2, .f32⟩
  | 46 => ⟨S2097152x1, .i1⟩
  | 47 => ⟨S2097152x2, .i1⟩
  | 48 => ⟨S2097152x2, .f32⟩
  | 49 => ⟨S2097152x1x2, .f32⟩
  | 50 => ⟨S2097152x2x2, .f32⟩
  | 51 => ⟨S2097152x2x2, .f32⟩
  | 52 => ⟨S2097152x2x2, .f32⟩
  | 53 => ⟨S2097152x2x2, .f32⟩
  | 54 => ⟨S2097152x2, .f32⟩
  | 55 => ⟨S_, .f32⟩
  | 56 => ⟨S2097152x2, .f32⟩
  | 57 => ⟨S2097152x2, .f32⟩
  | 58 => ⟨S2097152x2, .f32⟩
  | 59 => ⟨S_, .f32⟩
  | 60 => ⟨S2097152x2, .f32⟩
  | 61 => ⟨S2097152x2, .f32⟩
  | 62 => ⟨S2097152x2x2, .f32⟩
  | 63 => ⟨S_, .f32⟩
  | 64 => ⟨S2097152x2, .f32⟩
  | 65 => ⟨S_, .f32⟩
  | 66 => ⟨S2097152x2, .f32⟩
  | 67 => ⟨S2097152x2, .f32⟩
  | 68 => ⟨S2097152x2, .f32⟩
  | 69 => ⟨S_, .f32⟩
  | 70 => ⟨S2097152x2, .f32⟩
  | 71 => ⟨S2097152x2, .f32⟩
  | 72 => ⟨S2097152x1, .f32⟩
  | 73 => ⟨S2097152, .f32⟩
  | 74 => ⟨S2097152, .f32⟩
  | 75 => ⟨S2097152x1, .f32⟩
  | 76 => ⟨S2097152, .f32⟩
  | 77 => ⟨S2097152, .f32⟩
  | 78 => ⟨S2097152, .f32⟩
  | 79 => ⟨S_, .f32⟩
  | 80 => ⟨S2097152, .f32⟩
  | 81 => ⟨S2097152, .i1⟩
  | 82 => ⟨S_, .f32⟩
  | 83 => ⟨S_, .f32⟩
  | 84 => ⟨S2097152, .f32⟩
  | 85 => ⟨S2097152, .f32⟩
  | 86 => ⟨S2097152, .f32⟩
  | 87 => ⟨S_, .f32⟩
  | 88 => ⟨S2097152, .f32⟩
  | 89 => ⟨S2097152, .f32⟩
  | 90 => ⟨S2097152, .f32⟩
  | 91 => ⟨S2097152x1, .f32⟩
  | 92 => ⟨S2097152, .f32⟩
  | 93 => ⟨S2097152, .f32⟩
  | 94 => ⟨S2097152, .f32⟩
  | 95 => ⟨S2097152, .f32⟩
  | 96 => ⟨S2097152x1, .f32⟩
  | 97 => ⟨S2097152x3, .f32⟩
  | 98 => ⟨S2097152x3, .f32⟩
  | 99 => ⟨S_, .f32⟩
  | 100 => ⟨S2097152, .f32⟩
  | 101 => ⟨S2097152, .f32⟩
  | _ => ⟨S2097152x6, .f32⟩

abbrev hbmTy (i : Nat) : BufTy := match i / 128 with
  | 0 => hbmTy0_0 i
  | 1 => hbmTy0_1 i
  | _ => ⟨S2097152x6, .f32⟩

abbrev bufTy : (tb : Table) → Fin (tcTables nBuf tb) → BufTy
  | .hbm, ⟨i, _⟩ => hbmTy i
  | _, _ => ⟨S2097152x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_call0_cst : Ref sig .tc := ⟨.hbm, 31, rfl⟩
abbrev main_call0_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_call4_v0 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_call5_v0 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_4 : Ref sig .tc := ⟨.hbm, 102, rfl⟩
abbrev main_v84 : Ref sig .tc := ⟨.hbm, 103, rfl⟩
abbrev main_v85 : Ref sig .tc := ⟨.hbm, 104, rfl⟩
abbrev main_cst_5 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_cst_7 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_8 : Ref sig .tc := ⟨.hbm, 126, rfl⟩
abbrev main_v104 : Ref sig .tc := ⟨.hbm, 127, rfl⟩
abbrev main_v105 : Ref sig .tc := ⟨.hbm, 128, rfl⟩
abbrev main_cst_9 : Ref sig .tc := ⟨.hbm, 129, rfl⟩
abbrev main_call6_v0 : Ref sig .tc := ⟨.hbm, 130, rfl⟩
abbrev main_call6_v1 : Ref sig .tc := ⟨.hbm, 131, rfl⟩
abbrev main_v106 : Ref sig .tc := ⟨.hbm, 132, rfl⟩
abbrev main_cst_10 : Ref sig .tc := ⟨.hbm, 133, rfl⟩
abbrev main_v107 : Ref sig .tc := ⟨.hbm, 134, rfl⟩
abbrev main_v108 : Ref sig .tc := ⟨.hbm, 135, rfl⟩
abbrev main_cst_11 : Ref sig .tc := ⟨.hbm, 136, rfl⟩
abbrev main_call7_v0 : Ref sig .tc := ⟨.hbm, 137, rfl⟩
abbrev main_call7_v1 : Ref sig .tc := ⟨.hbm, 138, rfl⟩
abbrev main_v109 : Ref sig .tc := ⟨.hbm, 139, rfl⟩
abbrev main_cst_12 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_13 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_14 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_15 : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_v134 : Ref sig .tc := ⟨.hbm, 171, rfl⟩
abbrev main_call9_v0 : Ref sig .tc := ⟨.hbm, 172, rfl⟩
abbrev main_v135 : Ref sig .tc := ⟨.hbm, 173, rfl⟩
abbrev main_v136 : Ref sig .tc := ⟨.hbm, 174, rfl⟩
abbrev main_call10_v0 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_16 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_17 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_18 : Ref sig .tc := ⟨.hbm, 191, rfl⟩
abbrev main_v150 : Ref sig .tc := ⟨.hbm, 192, rfl⟩
abbrev main_cst_19 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_20 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_21 : Ref sig .tc := ⟨.hbm, 207, rfl⟩
abbrev main_v163 : Ref sig .tc := ⟨.hbm, 208, rfl⟩
abbrev main_v164 : Ref sig .tc := ⟨.hbm, 209, rfl⟩
abbrev main_cst_22 : Ref sig .tc := ⟨.hbm, 210, rfl⟩
abbrev main_cst_23 : Ref sig .tc := ⟨.hbm, 211, rfl⟩
abbrev main_call11_v0 : Ref sig .tc := ⟨.hbm, 212, rfl⟩
abbrev main_call11_v1 : Ref sig .tc := ⟨.hbm, 213, rfl⟩
abbrev main_v165 : Ref sig .tc := ⟨.hbm, 214, rfl⟩
abbrev main_cst_24 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_25 : Ref sig .tc := ⟨.hbm, 227, rfl⟩
abbrev main_v177 : Ref sig .tc := ⟨.hbm, 228, rfl⟩
abbrev main_v178 : Ref sig .tc := ⟨.hbm, 229, rfl⟩

abbrev nD : Nat := 1
abbrev τ : Topo := Topo.v7x

variable {F : FTy → Type} [FloatOps F]
-- ==== Proof.Sample.lean ====
/- One sample of the mixture: the network's eleven outputs for it and its two random numbers, and what the kernel and
   the reference each compute from them, written over the extended reals. Nothing here is about a program: the block and
   reference modules show that the programs' elements are these functions. -/
module

public import Idealize.ShloMosaic.PureOps.Ideal
public import Idealize.ShloMosaic.PureOps.Ideal.Laws

@[expose] public section

noncomputable section

namespace Cert

open Idealize.ShloMosaic

/-- The eleven outputs of the network for one sample (two locations, two log scales and one weight of two Gaussians, one
    weight of the lambert lobe) and the sample's two random numbers. -/
structure Sample where
  /-- the network's outputs -/
  o : Fin 11 → EReal
  /-- the random number that chooses the component -/
  rd : EReal
  /-- the second random number -/
  u : EReal

namespace Sample

/-! ### The constants -/

abbrev cHalf : EReal := Ideal.ofBits .f32 0x3F000000#32
abbrev cQuarter : EReal := Ideal.ofBits .f32 0x3E800000#32
abbrev cOne : EReal := Ideal.ofBits .f32 0x3F800000#32
abbrev cTwo : EReal := Ideal.ofBits .f32 0x40000000#32
abbrev cNegTwo : EReal := Ideal.ofBits .f32 0xC0000000#32
abbrev cZero : EReal := Ideal.ofBits .f32 0x00000000#32
abbrev cTwoPi : EReal := Ideal.ofBits .f32 0x40C90FDB#32
abbrev cPi4 : EReal := Ideal.ofBits .f32 0x3F490FDB#32
abbrev cPi2 : EReal := Ideal.ofBits .f32 0x3FC90FDB#32
abbrev cEps : EReal := Ideal.ofBits .f32 0x3727C5AC#32
abbrev cPdf : EReal := Ideal.ofBits .f32 0x3EA2F983#32
abbrev cNorm : EReal := Ideal.ofBits .f32 0xBFEB3F8E#32
abbrev cLo : EReal := Ideal.ofBits .f32 0x2B8CBCCC#32
abbrev cHi : EReal := Ideal.ofBits .f32 0x3F7FFFFE#32
/-- The kernel's folded logarithm of the regulariser. -/
abbrev cLogEps : EReal := ((Real.log (2748779 / 274877906944) : ℝ) : EReal)
/-- The kernel's folded logarithm of the lambert density plus the regulariser. -/
abbrev cLogPdf : EReal := ((Real.log (87499100523 / 274877906944) : ℝ) : EReal)

variable (s : Sample)

/-! ### The weights and the choice of the component, which both programs compute alike -/

/-- The magnitude of output `j`. -/
def mag (j : Fin 11) : EReal := max (s.o j) (-s.o j)
/-- The sum of the three weights' magnitudes. -/
def tot : EReal := s.mag 8 + s.mag 9 + s.mag 10
def w0 : EReal := Ideal.div (s.mag 8) s.tot
def w1 : EReal := Ideal.div (s.mag 9) s.tot
def w2 : EReal := Ideal.div (s.mag 10) s.tot
def wc1 : EReal := s.w0 + s.w1
/-- The sample is the first Gaussian's. -/
def g1 : BitVec 1 := Ideal.cmp .olt s.rd s.w0
/-- The sample is the second Gaussian's. -/
def g2 : BitVec 1 := ~~~s.g1 &&& Ideal.cmp .olt s.rd s.wc1
/-- The sample is a Gaussian's. -/
def gs : BitVec 1 := s.g1 ||| s.g2
/-- The sample is the lambert lobe's. -/
def lam : BitVec 1 := ~~~s.gs
/-- The Box–Muller angle. -/
def theta : EReal := cTwoPi * s.u
/-- The second coordinate of the square the lambert lobe is sampled from. -/
def y : EReal := s.u * cTwo - cOne
def loc0 : EReal := Scalar.select s.g2 (s.o 2) (s.o 0)
def loc1 : EReal := Scalar.select s.g2 (s.o 3) (s.o 1)

/-! ### The map from the square to the disk, at a point `(x, y)` of the square -/

/-- The point is the square's centre. -/
def centre (x y : EReal) : BitVec 1 := Ideal.cmp .oeq x cZero &&& Ideal.cmp .oeq y cZero
/-- The first coordinate is the greater one. -/
def wide (x y : EReal) : BitVec 1 := Ideal.cmp .ogt (max x (-x)) (max y (-y)) &&& ~~~centre x y
/-- The second coordinate is the greater one (or neither is). -/
def tall (x y : EReal) : BitVec 1 := ~~~wide x y &&& ~~~centre x y
/-- A coordinate, or one in place of zero. -/
def safe (x : EReal) : EReal := Scalar.select (Ideal.cmp .oeq x cZero) cOne x

/-! ### The reference -/

/-- The chosen component's random number, rescaled to the unit interval. -/
def rU : EReal :=
  Scalar.select s.g1 (Ideal.div s.rd s.w0)
    (Scalar.select s.g2 (Ideal.div (s.rd - s.w0) s.w1) (Ideal.div (s.rd - s.wc1) s.w2))
/-- The Box–Muller radius. -/
def rR : EReal := Ideal.sqrt (cNegTwo * Ideal.log (Scalar.select s.gs s.rU cHalf))
def rX : EReal := s.rU * cTwo - cOne
/-- The disk's angle where the first coordinate is the greater. -/
def rAngW : EReal := Ideal.div (cPi4 * s.y) (safe s.rX)
/-- The disk's angle where the second coordinate is the greater. -/
def rAngT : EReal := cPi2 - Ideal.div (cPi4 * s.rX) (safe s.y)
/-- The reference's first result, first coordinate. -/
def rZ0 : EReal :=
  Scalar.select s.lam
    (Scalar.select (wide s.rX s.y) (s.rX * Ideal.cos s.rAngW)
      (Scalar.select (tall s.rX s.y) (s.y * Ideal.cos s.rAngT) cZero))
    (s.rR * Ideal.cos s.theta * Ideal.exp (Scalar.select s.g2 (s.o 6) (s.o 4)) + s.loc0)
/-- The reference's first result, second coordinate. -/
def rZ1 : EReal :=
  Scalar.select s.lam
    (Scalar.select (wide s.rX s.y) (s.rX * Ideal.sin s.rAngW)
      (Scalar.select (tall s.rX s.y) (s.y * Ideal.sin s.rAngT) cZero))
    (s.rR * Ideal.sin s.theta * Ideal.exp (Scalar.select s.g2 (s.o 7) (s.o 5)) + s.loc1)
/-- A Gaussian's log density from its weight, its log scales and the normalised offsets. -/
def logGauss (w e0 e1 s0 s1 : EReal) : EReal :=
  cNorm + Ideal.log (w + cEps) - cHalf * (e0 * e0 + e1 * e1) - (s0 + s1)
/-- The reference's log density of one Gaussian at `(z0, z1)`. -/
def rGauss (w l0 l1 s0 s1 z0 z1 : EReal) : EReal :=
  logGauss w (Ideal.div (z0 - l0) (Ideal.exp s0)) (Ideal.div (z1 - l1) (Ideal.exp s1)) s0 s1
/-- `(z0, z1)` lies outside the unit disk. -/
def outside (z0 z1 : EReal) : BitVec 1 := Ideal.cmp .ogt (z0 * z0 + z1 * z1) cOne
/-- The reference's log density of the lambert lobe at `(z0, z1)`. -/
def rLamb (w z0 z1 : EReal) : EReal :=
  Ideal.log (Scalar.select (outside z0 z1) cZero cPdf + cEps) + Ideal.log w
/-- The logarithm of the sum of three exponentials, as the reference computes it. -/
def rLse (a b c : EReal) : EReal := Ideal.log (Ideal.exp a + Ideal.exp b + Ideal.exp c)
/-- The reference's second result. -/
def rLp : EReal :=
  rLse (rGauss s.w0 (s.o 0) (s.o 1) (s.o 4) (s.o 5) s.rZ0 s.rZ1)
    (rGauss s.w1 (s.o 2) (s.o 3) (s.o 6) (s.o 7) s.rZ0 s.rZ1) (rLamb s.w2 s.rZ0 s.rZ1)

/-! ### The kernel -/

/-- The chosen component's random number, its numerator and denominator chosen before the one division. -/
def kU : EReal :=
  Ideal.div (Scalar.select s.g1 s.rd (Scalar.select s.g2 (s.rd - s.w0) (s.rd - s.wc1)))
    (Scalar.select s.g1 s.w0 (Scalar.select s.g2 s.w1 s.w2))
/-- The Box–Muller radius of the clipped random number. -/
def kR : EReal := Ideal.sqrt (cNegTwo * Ideal.log (min cHi (max cLo (Scalar.select s.gs s.kU cHalf))))
def kX : EReal := Scalar.select s.lam s.kU cQuarter * cTwo - cOne
/-- The disk's radius. -/
def kRad : EReal := Scalar.select (wide s.kX s.y) s.kX s.y
/-- The quotient of the lesser by the greater coordinate, in units of a quarter turn. -/
def kQuot : EReal :=
  Ideal.div (cPi4 * Scalar.select (wide s.kX s.y) s.y s.kX) (Scalar.select (wide s.kX s.y) (safe s.kX) (safe s.y))
/-- The one angle the kernel takes the sine and the cosine of. -/
def kAng : EReal := Scalar.select s.lam (Scalar.select (wide s.kX s.y) s.kQuot (cPi2 - s.kQuot)) s.theta
/-- The kernel's first result, first coordinate. -/
def kZ0 : EReal :=
  Scalar.select s.lam (Scalar.select (centre s.kX s.y) cZero (s.kRad * Ideal.cos s.kAng))
    (s.kR * Ideal.cos s.kAng * Scalar.select s.g2 (Ideal.exp (s.o 6)) (Ideal.exp (s.o 4)) + s.loc0)
/-- The kernel's first result, second coordinate. -/
def kZ1 : EReal :=
  Scalar.select s.lam (Scalar.select (centre s.kX s.y) cZero (s.kRad * Ideal.sin s.kAng))
    (s.kR * Ideal.sin s.kAng * Scalar.select s.g2 (Ideal.exp (s.o 7)) (Ideal.exp (s.o 5)) + s.loc1)
/-- The kernel's log density of one Gaussian at `(z0, z1)`. -/
def kGauss (w l0 l1 s0 s1 z0 z1 : EReal) : EReal :=
  logGauss w ((z0 - l0) * Ideal.exp (cZero - s0)) ((z1 - l1) * Ideal.exp (cZero - s1)) s0 s1
/-- The kernel's log density of the lambert lobe at `(z0, z1)`. -/
def kLamb (w z0 z1 : EReal) : EReal := Scalar.select (outside z0 z1) cLogEps cLogPdf + Ideal.log w
/-- The logarithm of the sum of three exponentials, the greatest exponent taken out first. -/
def kLse (a b c : EReal) : EReal :=
  max (max a b) c
    + Ideal.log (Ideal.exp (a - max (max a b) c) + Ideal.exp (b - max (max a b) c) + Ideal.exp (c - max (max a b) c))
/-- The kernel's second result. -/
def kLp : EReal :=
  kLse (kGauss s.w0 (s.o 0) (s.o 1) (s.o 4) (s.o 5) s.kZ0 s.kZ1)
    (kGauss s.w1 (s.o 2) (s.o 3) (s.o 6) (s.o 7) s.kZ0 s.kZ1) (kLamb s.w2 s.kZ0 s.kZ1)

/-! ### The samples the claim is about -/

/-- The network's outputs are finite. -/
def Finite : Prop := ∀ j, s.o j ≠ ⊤ ∧ s.o j ≠ ⊥
/-- Where the sample is a Gaussian's, its rescaled random number lies inside the kernel's clip. -/
def Inside : Prop := s.gs = 1 → cLo ≤ s.rU ∧ s.rU ≤ cHi

end Sample
end Cert

end
-- ==== Proof.ScalarEq.lean ====
/- The kernel's and the reference's values of one sample agree where the network's outputs are finite and the kernel's
   clip moves nothing. -/
module

public import proofs.«01_k».proof.Proof.Sample

@[expose] public section

noncomputable section

namespace Cert.Sample

open Idealize.ShloMosaic

/-! ### Bits and constants -/

theorem bit_cases (b : BitVec 1) : b = 0#1 ∨ b = 1#1 := by
  revert b; decide

theorem select_one {α : Type} (a b : α) : Scalar.select 1#1 a b = a := rfl
theorem select_zero {α : Type} (a b : α) : Scalar.select 0#1 a b = b := rfl

theorem cZero_eq : cZero = 0 := by simp [cZero, Ideal.ofBits, Ideal.ieee]
theorem cHalf_eq : cHalf = ((1 / 2 : ℝ) : EReal) := by
  simp [cHalf, Ideal.ofBits, Ideal.ieee, -EReal.coe_mul]; norm_num
theorem cEps_eq : cEps = ((2748779 / 274877906944 : ℝ) : EReal) := by
  simp [cEps, Ideal.ofBits, Ideal.ieee, -EReal.coe_mul]; norm_num
theorem cPdf_eq : cPdf = ((10680707 / 33554432 : ℝ) : EReal) := by
  simp [cPdf, Ideal.ofBits, Ideal.ieee, -EReal.coe_mul]; norm_num
theorem cLo_le_cHalf : cLo ≤ cHalf := by
  rw [cHalf_eq]; simp [cLo, Ideal.ofBits, Ideal.ieee, -EReal.coe_mul]; norm_num
theorem cHalf_le_cHi : cHalf ≤ cHi := by
  rw [cHalf_eq]; simp [cHi, Ideal.ofBits, Ideal.ieee, -EReal.coe_mul]; norm_num
theorem cNorm_ne_top : cNorm ≠ ⊤ := by
  simp [cNorm, Ideal.ofBits, Ideal.ieee, -EReal.coe_mul, -EReal.coe_neg]

/-! ### The logarithm, the exponential and the quotient -/

theorem log_coe_of_pos {r : ℝ} (h : 0 < r) : Ideal.log (r : EReal) = ((Real.log r : ℝ) : EReal) := by
  show (if r ≤ 0 then ⊥ else (Real.log r : EReal)) = _
  rw [if_neg (not_le.mpr h)]

theorem log_ne_top {x : EReal} (h : x ≠ ⊤) : Ideal.log x ≠ ⊤ := by
  induction x with
  | bot => exact bot_ne_top (α := EReal)
  | top => exact absurd rfl h
  | coe r =>
    show (if r ≤ 0 then ⊥ else (Real.log r : EReal)) ≠ ⊤
    split <;> simp

theorem exp_coe (r : ℝ) : Ideal.exp (r : EReal) = ((Real.exp r : ℝ) : EReal) := rfl
theorem exp_bot : Ideal.exp ⊥ = 0 := rfl

/-- A product with the exponential of the negated log scale is the quotient by the scale, at a finite log scale. -/
theorem mul_exp_neg (a : EReal) {s : EReal} (h : s ≠ ⊤ ∧ s ≠ ⊥) :
    a * Ideal.exp (cZero - s) = Ideal.div a (Ideal.exp s) := by
  lift s to ℝ using h
  have h0 : ((Real.exp s : ℝ) : EReal) ≠ 0 := by exact_mod_cast (Real.exp_pos s).ne'
  rw [cZero_eq, zero_sub, ← EReal.coe_neg, exp_coe, exp_coe, Ideal.div, if_neg h0, Real.exp_neg, EReal.coe_inv]

/-- A quotient of finite numbers is not `+∞` where a zero denominator has a zero numerator. -/
theorem div_ne_top {a t : ℝ} (h : t = 0 → a = 0) : Ideal.div (a : EReal) (t : EReal) ≠ ⊤ := by
  unfold Ideal.div
  by_cases ht : t = 0
  · simp [ht, h ht]
  · rw [if_neg (by exact_mod_cast ht), ← EReal.coe_inv, ← EReal.coe_mul]
    exact EReal.coe_ne_top _

theorem mul_self_nonneg' (e : EReal) : 0 ≤ e * e := by
  induction e with
  | bot => simp
  | top => simp
  | coe r => rw [← EReal.coe_mul]; exact_mod_cast mul_self_nonneg r

theorem add_ne_top' {a b : EReal} (ha : a ≠ ⊤) (hb : b ≠ ⊤) : a + b ≠ ⊤ := EReal.add_ne_top ha hb

theorem sub_ne_top' {a b : EReal} (ha : a ≠ ⊤) (hb : b ≠ ⊥) : a - b ≠ ⊤ := by
  rw [sub_eq_add_neg]
  exact EReal.add_ne_top ha (by simpa [EReal.neg_eq_top_iff] using hb)

/-- A Gaussian's log density is not `+∞` where its weight is not and its log scales are finite. -/
theorem logGauss_ne_top {w s0 s1 : EReal} (e0 e1 : EReal) (hw : w ≠ ⊤) (h0 : s0 ≠ ⊤ ∧ s0 ≠ ⊥) (h1 : s1 ≠ ⊤ ∧ s1 ≠ ⊥) :
    logGauss w e0 e1 s0 s1 ≠ ⊤ := by
  unfold logGauss
  refine sub_ne_top' (sub_ne_top' (add_ne_top' cNorm_ne_top (log_ne_top (add_ne_top' hw ?_))) ?_) ?_
  · rw [cEps_eq]; exact EReal.coe_ne_top _
  · have h : 0 ≤ cHalf * (e0 * e0 + e1 * e1) := by
      refine mul_nonneg ?_ (add_nonneg (mul_self_nonneg' e0) (mul_self_nonneg' e1))
      rw [cHalf_eq]; exact_mod_cast (by norm_num : (0 : ℝ) ≤ 1 / 2)
    intro hb
    rw [hb] at h
    exact absurd h (by simp)
  · lift s0 to ℝ using h0
    lift s1 to ℝ using h1
    rw [← EReal.coe_add]; exact EReal.coe_ne_bot _

/-! ### The logarithm of a sum of exponentials -/

/-- An exponential below `+∞`, and the same after a finite shift of the exponent. -/
theorem exp_shift {a : EReal} (h : a ≠ ⊤) (r : ℝ) :
    ∃ p : ℝ, 0 ≤ p ∧ Ideal.exp a = (p : EReal) ∧ Ideal.exp (a - (r : EReal)) = ((p * Real.exp (-r) : ℝ) : EReal) := by
  induction a with
  | bot => exact ⟨0, le_refl _, by simp [exp_bot], by simp [exp_bot]⟩
  | top => exact absurd rfl h
  | coe x =>
    refine ⟨Real.exp x, (Real.exp_pos x).le, rfl, ?_⟩
    rw [← EReal.coe_sub, exp_coe, ← Real.exp_add, sub_eq_add_neg]

/-- Taking the greatest exponent out changes nothing where no exponent is `+∞`. -/
theorem kLse_eq {a b c : EReal} (ha : a ≠ ⊤) (hb : b ≠ ⊤) (hc : c ≠ ⊤) : kLse a b c = rLse a b c := by
  unfold kLse rLse
  rcases eq_or_ne (max (max a b) c) ⊥ with hm | hm
  · have h1 : a = ⊥ ∧ b = ⊥ ∧ c = ⊥ := by
      have := le_bot_iff.mp (hm ▸ le_max_right (max a b) c)
      have h2 := le_bot_iff.mp (hm ▸ le_max_left (max a b) c)
      exact ⟨le_bot_iff.mp (h2 ▸ le_max_left a b), le_bot_iff.mp (h2 ▸ le_max_right a b), this⟩
    obtain ⟨rfl, rfl, rfl⟩ := h1
    rw [max_self, max_self, EReal.bot_add, exp_bot, add_zero, add_zero, ← EReal.coe_zero]
    show ⊥ = (if (0 : ℝ) ≤ 0 then ⊥ else (Real.log 0 : EReal))
    rw [if_pos (le_refl _)]
  · have hm' : max (max a b) c ≠ ⊤ := by
      rcases max_choice (max a b) c with h | h <;> rw [h]
      · rcases max_choice a b with h | h <;> rw [h] <;> assumption
      · exact hc
    have hpos : ∀ {p q t : ℝ}, 0 ≤ p → 0 ≤ q → 0 ≤ t → Ideal.exp a = (p : EReal) → Ideal.exp b = (q : EReal) →
        Ideal.exp c = (t : EReal) → 0 < p + q + t := by
      intro p q t hp hq ht ea eb ec
      have key : ∀ {x : EReal} {v : ℝ}, x = max (max a b) c → Ideal.exp x = (v : EReal) → 0 < v := by
        intro x v hx hv
        rw [← hx] at hm hm'
        lift x to ℝ using ⟨hm', hm⟩
        rw [exp_coe] at hv
        rw [← EReal.coe_eq_coe_iff.mp hv]
        exact Real.exp_pos _
      rcases max_choice (max a b) c with h | h
      · rcases max_choice a b with h' | h'
        · have := key (by rw [h, h']) ea; linarith
        · have := key (by rw [h, h']) eb; linarith
      · have := key h.symm ec; linarith
    generalize max (max a b) c = m at hm hm'
    lift m to ℝ using ⟨hm', hm⟩
    obtain ⟨p, hp, ea, sa⟩ := exp_shift ha m
    obtain ⟨q, hq, eb, sb⟩ := exp_shift hb m
    obtain ⟨t, ht, ec, sc⟩ := exp_shift hc m
    have hs := hpos hp hq ht ea eb ec
    rw [ea, eb, ec, sa, sb, sc, ← EReal.coe_add, ← EReal.coe_add, ← EReal.coe_add, ← EReal.coe_add,
      ← add_mul, ← add_mul, log_coe_of_pos hs, log_coe_of_pos (mul_pos hs (Real.exp_pos _)),
      Real.log_mul hs.ne' (Real.exp_pos _).ne', Real.log_exp, ← EReal.coe_add]
    congr 1; ring

/-! ### The weights -/

variable {s : Sample}

theorem mag_coe (h : s.Finite) (j : Fin 11) : ∃ r : ℝ, 0 ≤ r ∧ s.mag j = (r : EReal) := by
  obtain ⟨h1, h2⟩ := h j
  unfold mag
  generalize s.o j = x at h1 h2
  lift x to ℝ using ⟨h1, h2⟩
  refine ⟨max x (-x), ?_, ?_⟩
  · rcases le_total 0 x with h | h
    · exact le_max_of_le_left h
    · exact le_max_of_le_right (by linarith)
  · rw [← EReal.coe_neg]
    exact (EReal.coe_strictMono.monotone.map_max).symm

theorem weights_ne_top (h : s.Finite) : s.w0 ≠ ⊤ ∧ s.w1 ≠ ⊤ ∧ s.w2 ≠ ⊤ := by
  obtain ⟨a, ha, ea⟩ := mag_coe h 8
  obtain ⟨b, hb, eb⟩ := mag_coe h 9
  obtain ⟨c, hc, ec⟩ := mag_coe h 10
  unfold w0 w1 w2 tot
  rw [ea, eb, ec, ← EReal.coe_add, ← EReal.coe_add]
  exact ⟨div_ne_top fun ht => by linarith, div_ne_top fun ht => by linarith, div_ne_top fun ht => by linarith⟩

/-! ### The samples -/

/-- One division of chosen operands is the chosen quotient. -/
theorem kU_eq : s.kU = s.rU := by
  unfold kU rU
  rcases bit_cases s.g1 with h1 | h1 <;> rcases bit_cases s.g2 with h2 | h2 <;> rw [h1, h2] <;> rfl

/-- The clipped radius is the reference's where the clip moves nothing. -/
theorem kR_eq (h : s.Inside) : s.kR = s.rR := by
  unfold kR rR
  rw [kU_eq]
  have hb : cLo ≤ Scalar.select s.gs s.rU cHalf ∧ Scalar.select s.gs s.rU cHalf ≤ cHi := by
    rcases bit_cases s.gs with hg | hg
    · rw [hg, select_zero]; exact ⟨cLo_le_cHalf, cHalf_le_cHi⟩
    · have := h hg; rw [hg, select_one]; exact this
  rw [max_eq_right hb.1, min_eq_right hb.2]

/-- On a lambert sample the kernel's first coordinate in the square is the reference's. -/
theorem kX_eq (h : s.lam = 1#1) : s.kX = s.rX := by
  unfold kX rX
  rw [h, select_one, kU_eq]

theorem select_exp (c : BitVec 1) (a b : EReal) :
    Scalar.select c (Ideal.exp a) (Ideal.exp b) = Ideal.exp (Scalar.select c a b) := by
  rcases bit_cases c with h | h <;> rw [h] <;> rfl

/-- One product of the chosen radius and a function of the chosen angle is the reference's choice of products. -/
theorem lambert_eq (f : EReal → EReal) (h : s.lam = 1#1) :
    Scalar.select (centre s.kX s.y) cZero (s.kRad * f s.kAng)
      = Scalar.select (wide s.rX s.y) (s.rX * f s.rAngW)
        (Scalar.select (tall s.rX s.y) (s.y * f s.rAngT) cZero) := by
  unfold kRad kAng kQuot rAngW rAngT
  rw [h, select_one, kX_eq h]
  unfold tall
  have hw : centre s.rX s.y = 1#1 → wide s.rX s.y = 0#1 := by
    intro hc
    unfold wide
    rw [hc]
    rcases bit_cases (Ideal.cmp .ogt (max s.rX (-s.rX)) (max s.y (-s.y))) with h | h <;> rw [h] <;> rfl
  rcases bit_cases (centre s.rX s.y) with hc | hc
  · rcases bit_cases (wide s.rX s.y) with h' | h' <;> rw [hc, h'] <;> rfl
  · rw [hc, hw hc]; rfl

theorem kAng_of_gauss (h : s.lam = 0#1) : s.kAng = s.theta := by
  unfold kAng; rw [h, select_zero]

theorem kZ0_eq (h : s.Inside) : s.kZ0 = s.rZ0 := by
  unfold kZ0 rZ0
  rw [select_exp, kR_eq h]
  rcases bit_cases s.lam with hl | hl
  · rw [kAng_of_gauss hl, hl, select_zero, select_zero]
  · rw [lambert_eq Ideal.cos hl, hl, select_one, select_one]

theorem kZ1_eq (h : s.Inside) : s.kZ1 = s.rZ1 := by
  unfold kZ1 rZ1
  rw [select_exp, kR_eq h]
  rcases bit_cases s.lam with hl | hl
  · rw [kAng_of_gauss hl, hl, select_zero, select_zero]
  · rw [lambert_eq Ideal.sin hl, hl, select_one, select_one]

/-! ### The log density -/

theorem kGauss_eq (w l0 l1 z0 z1 : EReal) {s0 s1 : EReal} (h0 : s0 ≠ ⊤ ∧ s0 ≠ ⊥) (h1 : s1 ≠ ⊤ ∧ s1 ≠ ⊥) :
    kGauss w l0 l1 s0 s1 z0 z1 = rGauss w l0 l1 s0 s1 z0 z1 := by
  unfold kGauss rGauss
  rw [mul_exp_neg _ h0, mul_exp_neg _ h1]

/-- The kernel's folded logarithms are the reference's logarithms. -/
theorem kLamb_eq (w z0 z1 : EReal) : kLamb w z0 z1 = rLamb w z0 z1 := by
  unfold kLamb rLamb
  congr 1
  rcases bit_cases (outside z0 z1) with h | h <;> rw [h]
  · rw [select_zero, select_zero, cPdf_eq, cEps_eq, ← EReal.coe_add, log_coe_of_pos (by norm_num)]
    norm_num [cLogPdf]
  · rw [select_one, select_one, cZero_eq, cEps_eq, zero_add, log_coe_of_pos (by norm_num)]

theorem rLamb_ne_top {w : EReal} (z0 z1 : EReal) (hw : w ≠ ⊤) : rLamb w z0 z1 ≠ ⊤ := by
  rw [← kLamb_eq]
  unfold kLamb
  refine add_ne_top' ?_ (log_ne_top hw)
  rcases bit_cases (outside z0 z1) with h | h <;> rw [h]
  · exact EReal.coe_ne_top _
  · exact EReal.coe_ne_top _

/-- The kernel's log density is the reference's. -/
theorem kLp_eq (hf : s.Finite) (hi : s.Inside) : s.kLp = s.rLp := by
  obtain ⟨h0, h1, h2⟩ := weights_ne_top hf
  unfold kLp rLp
  rw [kZ0_eq hi, kZ1_eq hi, kGauss_eq _ _ _ _ _ (hf 4) (hf 5), kGauss_eq _ _ _ _ _ (hf 6) (hf 7), kLamb_eq]
  exact kLse_eq (logGauss_ne_top _ _ h0 (hf 4) (hf 5)) (logGauss_ne_top _ _ h1 (hf 6) (hf 7)) (rLamb_ne_top _ _ h2)

end Cert.Sample

end
-- ==== Proof.Block.lean ====
/- One grid point's block: what each value of the kernel's body is at row `r` and lane `l` of the block, as a function of
   that sample's network outputs and random numbers (`Cert.Sample`), and so what the two output blocks hold there. -/
module

public import proofs.«01_k».proof.Proof.Gen.KernelIdeal.Frame
public import proofs.«01_k».proof.Proof.ScalarEq
public import Idealize.ShloMosaic.Lib.MatmulPlain
public import Idealize.ShloMosaic.Lib.Pipeline.Value
public import Idealize.ShloMosaic.Lib.Pipeline.ValueKit.Tiles
public import Idealize.ShloMosaic.Lib.Pipeline.ValueKit.Basic

@[expose] public section

noncomputable section

namespace Cert.Block

open Idealize.ShloMosaic Idealize.ShloMosaic.ValueIdx Cert.KernelIdeal Cert.KernelIdeal.Gen
open scoped BigOperators

/-- A bit's exclusive or with one is its complement. -/
theorem xor_one (c : BitVec 1) : c ^^^ 1#1 = ~~~c := by revert c; decide

/-- The position among a block's 32768 samples of row `r` and lane `l`. -/
def lane (i : S256x128.Idx) : Fin 32768 := ⟨(i 0).val * 128 + (i 1).val, by
  have h0 : (i 0).val < 256 := (i 0).isLt
  have h1 : (i 1).val < 128 := (i 1).isLt
  omega⟩

/-- Row `j` of the outputs, laid out as 256 rows of 128 lanes, read at an index. -/
theorem row_apply (v : FVec Ideal S11x32768 .f32) (j : Fin 11) (h : S11x32768.Slices ![j.val, 0] S1x32768)
    (h1 : S1x32768.ShapeCasts S32768) (h2 : S32768.ShapeCasts S256x128) (i : S256x128.Idx) :
    shapeCast S256x128 (shapeCast S32768 (extractStridedSlice S1x32768 ![j.val, 0] v h) h1) h2 i = v (ix2 j (lane i)) := by
  rw [shapeCast_apply _ h2 i (ix1 (lane i)) (by rw [Shape.rowMajor_val_one, Shape.rowMajor_val_two]; rfl),
    shapeCast_apply _ h1 (ix1 (lane i)) (ix2 0 (lane i)) (by
      rw [Shape.rowMajor_val_two, Shape.rowMajor_val_one]; show 0 * 32768 + (lane i).val = (lane i).val; omega),
    extractStridedSlice_apply _ v h (ix2 0 (lane i)) (ix2 j (lane i)) (fun a => by
      match a with
      | ⟨0, _⟩ => show j.val = j.val + 0; omega
      | ⟨1, _⟩ => show (lane i).val = 0 + (lane i).val; omega)]

variable (x0 : Vec Ideal S1x6x32768 .f32) (x1 : Vec Ideal S1x2x256x128 .f32) (x2 : Vec Ideal S32x6 .f32)
  (x3 : Vec Ideal S32x1 .f32) (x4 : Vec Ideal S11x32 .f32) (x5 : Vec Ideal S11x1 .f32)

/-- The network's output `j` for the sample at position `p` of the block. -/
def out (j : Fin 11) (p : Fin 32768) : EReal :=
  (∑ h : Fin 32, x4 (ix2 j h) * max ((∑ k : Fin 6, x2 (ix2 h k) * x0 (ix3 0 k p)) + x3 (ix2 h 0)) Sample.cZero)
    + x5 (ix2 j 0)

/-- The sample at row `r` and lane `l` of the block. -/
def smp (i : S256x128.Idx) : Sample where
  o j := out x0 x2 x3 x4 x5 j (lane i)
  rd := x1 (ix4 0 0 (i 0) (i 1))
  u := x1 (ix4 0 1 (i 0) (i 1))

/-- The block's conditions without their unit axis. -/
theorem cond_apply (k : Fin 6) (p : Fin 32768) (h : S1x6x32768.ShapeCasts S6x32768) :
    shapeCast S6x32768 x0 h (ix2 k p) = x0 (ix3 0 k p) :=
  shapeCast_apply _ h _ _ (by
    rw [Shape.rowMajor_val_three, Shape.rowMajor_val_two]
    show (0 * 6 + k.val) * 32768 + p.val = k.val * 32768 + p.val; omega)

/-- A column spread over a block's samples. -/
theorem spread_apply {n : Nat} (x : Vec Ideal ⟨2, ![n, 1]⟩ .f32) (h : (⟨2, ![n, 1]⟩ : Shape).Broadcasts ⟨2, ![n, 32768]⟩)
    (hn : n ≠ 1) (j : Fin n) (p : Fin 32768) :
    broadcastTo ⟨2, ![n, 32768]⟩ x h (ix2 j p) = x (ix2 j 0) :=
  broadcastTo_apply x h _ _ (fun a => by
    match a with
    | ⟨0, _⟩ => show j.val = if n = 1 then 0 else _; rw [if_neg hn]; rfl
    | ⟨1, _⟩ => rfl)

/-- The first product of the network at unit `h` and position `p`. -/
theorem dot1_apply (L : FVec Ideal S32x6 .f32) (R : FVec Ideal S6x32768 .f32) (h : Fin 32) (p : Fin 32768) :
    matmul dot_S32x6_S6x32768_S32x32768_1_0_0_1_n_n none L R (constant S32x32768 .f32 0x00000000#32) (ix2 h p)
      = ∑ k : Fin 6, L (ix2 h k) * R (ix2 k p) := by
  refine (Ideal.matmul_plain_apply (M := 32) (K := 6) (N := 32768) none L R _ h p).trans ?_
  show Ideal.ofBits .f32 0x00000000#32 + _ = _
  rw [Ideal.ofBits_zero_f32, zero_add]

/-- The second product of the network at output `j` and position `p`. -/
theorem dot2_apply (L : FVec Ideal S11x32 .f32) (R : FVec Ideal S32x32768 .f32) (j : Fin 11) (p : Fin 32768) :
    matmul dot_S11x32_S32x32768_S11x32768_1_0_0_1_n_n none L R (constant S11x32768 .f32 0x00000000#32) (ix2 j p)
      = ∑ h : Fin 32, L (ix2 j h) * R (ix2 h p) := by
  refine (Ideal.matmul_plain_apply (M := 11) (K := 32) (N := 32768) none L R _ j p).trans ?_
  show Ideal.ofBits .f32 0x00000000#32 + _ = _
  rw [Ideal.ofBits_zero_f32, zero_add]

/-- The outputs' block at output `j` and position `p`. -/
theorem net_apply (j : Fin 11) (p : Fin 32768) : k0_pay1 x0 x2 x3 x4 x5 (ix2 j p) = out x0 x2 x3 x4 x5 j p := by
  unfold k0_pay1 out
  show matmul _ _ _ _ _ _ + broadcastTo _ _ _ _ = _
  refine congrArg₂ (· + ·) ((dot2_apply _ _ j p).trans ?_) ?_
  · refine Finset.sum_congr rfl fun h _ => ?_
    rw [shapeCast_self]
    refine congrArg (x4 (ix2 j h) * ·) ?_
    show max (matmul _ _ _ _ _ _ + broadcastTo _ _ _ _) _ = _
    refine congrArg₂ max (congrArg₂ (· + ·) ((dot1_apply _ _ h p).trans ?_) ?_) rfl
    · refine Finset.sum_congr rfl fun k _ => ?_
      rw [shapeCast_self, cond_apply]
    · rw [shapeCast_self]; exact spread_apply x3 _ (by decide) h p
  · rw [shapeCast_self]; exact spread_apply x5 _ (by decide) j p

/-- A whole block loaded is the block. -/
theorem ld0 : View.ld x0 r0_0 = x0 := View.ld_unit_lit _ x0 (by decide)
theorem ld2 : View.ld x2 r0_1 = x2 := View.ld_unit_lit _ x2 (by decide)
theorem ld3 : View.ld x3 r0_2 = x3 := View.ld_unit_lit _ x3 (by decide)
theorem ld4 : View.ld x4 r0_3 = x4 := View.ld_unit_lit _ x4 (by decide)
theorem ld5 : View.ld x5 r0_4 = x5 := View.ld_unit_lit _ x5 (by decide)

/-- The outputs' block, at row `j` and the position of an index. -/
theorem net (j : Fin 11) (i : S256x128.Idx) :
    k0_pay49 x0 x1 x2 x3 x4 x5 (ix2 j (lane i)) = (smp x0 x1 x2 x3 x4 x5 i).o j := by
  unfold k0_pay49
  rw [ld0, ld2, ld3, ld4, ld5]
  exact net_apply x0 x2 x3 x4 x5 j (lane i)

variable (i : S256x128.Idx)

/-- Output 0 as 256 rows of 128 lanes. -/
theorem row0 : k0_pay50 x0 x1 x2 x3 x4 x5 i = (smp x0 x1 x2 x3 x4 x5 i).o 0 := by
  unfold k0_pay50 k0_pay2
  exact (row_apply _ 0 slices_S11x32768_o0_0_S1x32768 _ _ i).trans (net x0 x1 x2 x3 x4 x5 0 i)

/-- Output 1 as 256 rows of 128 lanes. -/
theorem row1 : k0_pay51 x0 x1 x2 x3 x4 x5 i = (smp x0 x1 x2 x3 x4 x5 i).o 1 := by
  unfold k0_pay51 k0_pay3
  exact (row_apply _ 1 slices_S11x32768_o1_0_S1x32768 _ _ i).trans (net x0 x1 x2 x3 x4 x5 1 i)

/-- Output 2 as 256 rows of 128 lanes. -/
theorem row2 : k0_pay52 x0 x1 x2 x3 x4 x5 i = (smp x0 x1 x2 x3 x4 x5 i).o 2 := by
  unfold k0_pay52 k0_pay4
  exact (row_apply _ 2 slices_S11x32768_o2_0_S1x32768 _ _ i).trans (net x0 x1 x2 x3 x4 x5 2 i)

/-- Output 3 as 256 rows of 128 lanes. -/
theorem row3 : k0_pay53 x0 x1 x2 x3 x4 x5 i = (smp x0 x1 x2 x3 x4 x5 i).o 3 := by
  unfold k0_pay53 k0_pay5
  exact (row_apply _ 3 slices_S11x32768_o3_0_S1x32768 _ _ i).trans (net x0 x1 x2 x3 x4 x5 3 i)

/-- Output 4 as 256 rows of 128 lanes. -/
theorem row4 : k0_pay54 x0 x1 x2 x3 x4 x5 i = (smp x0 x1 x2 x3 x4 x5 i).o 4 := by
  unfold k0_pay54 k0_pay6
  exact (row_apply _ 4 slices_S11x32768_o4_0_S1x32768 _ _ i).trans (net x0 x1 x2 x3 x4 x5 4 i)

/-- Output 5 as 256 rows of 128 lanes. -/
theorem row5 : k0_pay55 x0 x1 x2 x3 x4 x5 i = (smp x0 x1 x2 x3 x4 x5 i).o 5 := by
  unfold k0_pay55 k0_pay7
  exact (row_apply _ 5 slices_S11x32768_o5_0_S1x32768 _ _ i).trans (net x0 x1 x2 x3 x4 x5 5 i)

/-- Output 6 as 256 rows of 128 lanes. -/
theorem row6 : k0_pay56 x0 x1 x2 x3 x4 x5 i = (smp x0 x1 x2 x3 x4 x5 i).o 6 := by
  unfold k0_pay56 k0_pay8
  exact (row_apply _ 6 slices_S11x32768_o6_0_S1x32768 _ _ i).trans (net x0 x1 x2 x3 x4 x5 6 i)

/-- Output 7 as 256 rows of 128 lanes. -/
theorem row7 : k0_pay57 x0 x1 x2 x3 x4 x5 i = (smp x0 x1 x2 x3 x4 x5 i).o 7 := by
  unfold k0_pay57 k0_pay9
  exact (row_apply _ 7 slices_S11x32768_o7_0_S1x32768 _ _ i).trans (net x0 x1 x2 x3 x4 x5 7 i)

/-- Output 8 as 256 rows of 128 lanes. -/
theorem row8 : k0_pay58 x0 x1 x2 x3 x4 x5 i = (smp x0 x1 x2 x3 x4 x5 i).o 8 := by
  unfold k0_pay58 k0_pay10
  exact (row_apply _ 8 slices_S11x32768_o8_0_S1x32768 _ _ i).trans (net x0 x1 x2 x3 x4 x5 8 i)

/-- The magnitude of output 9. -/
theorem mag9 : k0_pay12 (k0_pay49 x0 x1 x2 x3 x4 x5) i = (smp x0 x1 x2 x3 x4 x5 i).mag 9 := by
  have h := (row_apply (k0_pay49 x0 x1 x2 x3 x4 x5) 9 slices_S11x32768_o9_0_S1x32768 shapeCasts_S1x32768_S32768 shapeCasts_S32768_S256x128 i).trans (net x0 x1 x2 x3 x4 x5 9 i)
  unfold Sample.mag
  rw [← h]
  rfl

/-- The magnitude of output 10. -/
theorem mag10 : k0_pay13 (k0_pay49 x0 x1 x2 x3 x4 x5) i = (smp x0 x1 x2 x3 x4 x5 i).mag 10 := by
  have h := (row_apply (k0_pay49 x0 x1 x2 x3 x4 x5) 10 slices_S11x32768_o10_0_S1x32768 shapeCasts_S1x32768_S32768 shapeCasts_S32768_S256x128 i).trans (net x0 x1 x2 x3 x4 x5 10 i)
  unfold Sample.mag
  rw [← h]
  rfl

/-- The magnitude of output 8. -/
theorem mag8 : k0_pay11 (k0_pay58 x0 x1 x2 x3 x4 x5) i = (smp x0 x1 x2 x3 x4 x5 i).mag 8 := by
  unfold Sample.mag
  rw [← row8 x0 x1 x2 x3 x4 x5 i]
  rfl

/-- The sum of the weights' magnitudes. -/
theorem tot : k0_pay14 (k0_pay49 x0 x1 x2 x3 x4 x5) (k0_pay58 x0 x1 x2 x3 x4 x5) i = (smp x0 x1 x2 x3 x4 x5 i).tot := by
  unfold Sample.tot
  rw [← mag8 x0 x1 x2 x3 x4 x5 i, ← mag9 x0 x1 x2 x3 x4 x5 i, ← mag10 x0 x1 x2 x3 x4 x5 i]
  rfl

/-- The first weight. -/
theorem w0 : k0_pay15 (k0_pay49 x0 x1 x2 x3 x4 x5) (k0_pay58 x0 x1 x2 x3 x4 x5) i = (smp x0 x1 x2 x3 x4 x5 i).w0 := by
  unfold Sample.w0
  rw [← mag8 x0 x1 x2 x3 x4 x5 i, ← tot x0 x1 x2 x3 x4 x5 i]
  rfl

/-- The second weight. -/
theorem w1 : k0_pay16 (k0_pay49 x0 x1 x2 x3 x4 x5) (k0_pay58 x0 x1 x2 x3 x4 x5) i = (smp x0 x1 x2 x3 x4 x5 i).w1 := by
  unfold Sample.w1
  rw [← mag9 x0 x1 x2 x3 x4 x5 i, ← tot x0 x1 x2 x3 x4 x5 i]
  rfl

/-- The third weight. -/
theorem w2 : k0_pay17 (k0_pay49 x0 x1 x2 x3 x4 x5) (k0_pay58 x0 x1 x2 x3 x4 x5) i = (smp x0 x1 x2 x3 x4 x5 i).w2 := by
  unfold Sample.w2
  rw [← mag10 x0 x1 x2 x3 x4 x5 i, ← tot x0 x1 x2 x3 x4 x5 i]
  rfl

/-- The sum of the first two weights. -/
theorem wc1 : k0_pay20 (k0_pay49 x0 x1 x2 x3 x4 x5) (k0_pay58 x0 x1 x2 x3 x4 x5) i = (smp x0 x1 x2 x3 x4 x5 i).wc1 := by
  unfold Sample.wc1
  rw [← w0 x0 x1 x2 x3 x4 x5 i, ← w1 x0 x1 x2 x3 x4 x5 i]
  rfl

/-- The random number that chooses the component. -/
theorem rd : k0_pay18 (View.ld x1 r0_5) i = (smp x0 x1 x2 x3 x4 x5 i).rd := by
  unfold k0_pay18
  refine (shapeCast_apply (s := S1x1x256x128) (t := S256x128) _ _ i (ix4 0 0 (i 0) (i 1)) (by rw [Shape.rowMajor_val_four, Shape.rowMajor_val_two]; show ((0 * 1 + 0) * 256 + (i 0).val) * 128 + (i 1).val = (i 0).val * 128 + (i 1).val; omega)).trans ?_
  exact View.ld_unit_apply_of x1 _ _ _ _ (ix4 0 0 (i 0) (i 1)) (fun a => by
    match a with
    | ⟨0, _⟩ => rfl
    | ⟨1, _⟩ => rfl
    | ⟨2, _⟩ => show (i 0).val = 0 + (i 0).val; omega
    | ⟨3, _⟩ => show (i 1).val = 0 + (i 1).val; omega)

/-- The second random number. -/
theorem u : k0_pay19 (View.ld x1 r0_6) i = (smp x0 x1 x2 x3 x4 x5 i).u := by
  unfold k0_pay19
  refine (shapeCast_apply (s := S1x1x256x128) (t := S256x128) _ _ i (ix4 0 0 (i 0) (i 1)) (by rw [Shape.rowMajor_val_four, Shape.rowMajor_val_two]; show ((0 * 1 + 0) * 256 + (i 0).val) * 128 + (i 1).val = (i 0).val * 128 + (i 1).val; omega)).trans ?_
  exact View.ld_unit_apply_of x1 _ _ _ _ (ix4 0 1 (i 0) (i 1)) (fun a => by
    match a with
    | ⟨0, _⟩ => rfl
    | ⟨1, _⟩ => rfl
    | ⟨2, _⟩ => show (i 0).val = 0 + (i 0).val; omega
    | ⟨3, _⟩ => show (i 1).val = 0 + (i 1).val; omega)

/-- The sample is the first Gaussian's. -/
theorem g1 : k0_pay21 (k0_pay49 x0 x1 x2 x3 x4 x5) (k0_pay58 x0 x1 x2 x3 x4 x5) (View.ld x1 r0_5) i = (smp x0 x1 x2 x3 x4 x5 i).g1 := by
  unfold Sample.g1
  rw [← rd x0 x1 x2 x3 x4 x5 i, ← w0 x0 x1 x2 x3 x4 x5 i]
  rfl

/-- The sample is the second Gaussian's. -/
theorem g2 : k0_pay22 (k0_pay49 x0 x1 x2 x3 x4 x5) (k0_pay58 x0 x1 x2 x3 x4 x5) (View.ld x1 r0_5) i = (smp x0 x1 x2 x3 x4 x5 i).g2 := by
  unfold Sample.g2
  rw [← xor_one, ← g1 x0 x1 x2 x3 x4 x5 i, ← rd x0 x1 x2 x3 x4 x5 i, ← wc1 x0 x1 x2 x3 x4 x5 i]
  rfl

/-- The sample is a Gaussian's. -/
theorem gs : k0_pay23 (k0_pay49 x0 x1 x2 x3 x4 x5) (k0_pay58 x0 x1 x2 x3 x4 x5) (View.ld x1 r0_5) i = (smp x0 x1 x2 x3 x4 x5 i).gs := by
  unfold Sample.gs
  rw [← g1 x0 x1 x2 x3 x4 x5 i, ← g2 x0 x1 x2 x3 x4 x5 i]
  rfl

/-- The sample is the lambert lobe's. -/
theorem lam : k0_pay24 (k0_pay49 x0 x1 x2 x3 x4 x5) (k0_pay58 x0 x1 x2 x3 x4 x5) (View.ld x1 r0_5) i = (smp x0 x1 x2 x3 x4 x5 i).lam := by
  unfold Sample.lam
  rw [← xor_one, ← gs x0 x1 x2 x3 x4 x5 i]
  rfl

/-- The rescaled random number. -/
theorem kU : k0_pay25 (k0_pay49 x0 x1 x2 x3 x4 x5) (k0_pay58 x0 x1 x2 x3 x4 x5) (View.ld x1 r0_5) i = (smp x0 x1 x2 x3 x4 x5 i).kU := by
  unfold Sample.kU
  rw [← g1 x0 x1 x2 x3 x4 x5 i, ← g2 x0 x1 x2 x3 x4 x5 i, ← rd x0 x1 x2 x3 x4 x5 i, ← w0 x0 x1 x2 x3 x4 x5 i, ← w1 x0 x1 x2 x3 x4 x5 i, ← w2 x0 x1 x2 x3 x4 x5 i, ← wc1 x0 x1 x2 x3 x4 x5 i]
  rfl

/-- The Box–Muller radius. -/
theorem kR : k0_pay26 (k0_pay49 x0 x1 x2 x3 x4 x5) (k0_pay58 x0 x1 x2 x3 x4 x5) (View.ld x1 r0_5) i = (smp x0 x1 x2 x3 x4 x5 i).kR := by
  unfold Sample.kR
  rw [← gs x0 x1 x2 x3 x4 x5 i, ← kU x0 x1 x2 x3 x4 x5 i]
  rfl

/-- The Box–Muller angle. -/
theorem theta : k0_pay27 (View.ld x1 r0_6) i = (smp x0 x1 x2 x3 x4 x5 i).theta := by
  unfold Sample.theta
  rw [← u x0 x1 x2 x3 x4 x5 i]
  rfl

/-- The chosen first scale. -/
theorem scale0 : k0_pay65 x0 x1 x2 x3 x4 x5 i = Scalar.select (smp x0 x1 x2 x3 x4 x5 i).g2 (Ideal.exp ((smp x0 x1 x2 x3 x4 x5 i).o 6)) (Ideal.exp ((smp x0 x1 x2 x3 x4 x5 i).o 4)) := by
  rw [← g2 x0 x1 x2 x3 x4 x5 i, ← row6 x0 x1 x2 x3 x4 x5 i, ← row4 x0 x1 x2 x3 x4 x5 i]
  rfl

/-- The chosen second scale. -/
theorem scale1 : k0_pay66 x0 x1 x2 x3 x4 x5 i = Scalar.select (smp x0 x1 x2 x3 x4 x5 i).g2 (Ideal.exp ((smp x0 x1 x2 x3 x4 x5 i).o 7)) (Ideal.exp ((smp x0 x1 x2 x3 x4 x5 i).o 5)) := by
  rw [← g2 x0 x1 x2 x3 x4 x5 i, ← row7 x0 x1 x2 x3 x4 x5 i, ← row5 x0 x1 x2 x3 x4 x5 i]
  rfl

/-- The chosen first location. -/
theorem loc0 : k0_pay67 x0 x1 x2 x3 x4 x5 i = (smp x0 x1 x2 x3 x4 x5 i).loc0 := by
  unfold Sample.loc0
  rw [← g2 x0 x1 x2 x3 x4 x5 i, ← row2 x0 x1 x2 x3 x4 x5 i, ← row0 x0 x1 x2 x3 x4 x5 i]
  rfl

/-- The chosen second location. -/
theorem loc1 : k0_pay68 x0 x1 x2 x3 x4 x5 i = (smp x0 x1 x2 x3 x4 x5 i).loc1 := by
  unfold Sample.loc1
  rw [← g2 x0 x1 x2 x3 x4 x5 i, ← row3 x0 x1 x2 x3 x4 x5 i, ← row1 x0 x1 x2 x3 x4 x5 i]
  rfl

/-- The square's first coordinate. -/
theorem kX : k0_pay33 (k0_pay61 x0 x1 x2 x3 x4 x5) (k0_pay62 x0 x1 x2 x3 x4 x5) i = (smp x0 x1 x2 x3 x4 x5 i).kX := by
  unfold Sample.kX
  rw [← lam x0 x1 x2 x3 x4 x5 i, ← kU x0 x1 x2 x3 x4 x5 i]
  rfl

/-- The square's second coordinate. -/
theorem y : k0_pay34 (k0_pay59 x0 x1 x2 x3 x4 x5) i = (smp x0 x1 x2 x3 x4 x5 i).y := by
  unfold Sample.y
  rw [← u x0 x1 x2 x3 x4 x5 i]
  rfl

/-- The point is the square's centre. -/
theorem centre : k0_pay35 (k0_pay59 x0 x1 x2 x3 x4 x5) (k0_pay61 x0 x1 x2 x3 x4 x5) (k0_pay62 x0 x1 x2 x3 x4 x5) i = Sample.centre (smp x0 x1 x2 x3 x4 x5 i).kX (smp x0 x1 x2 x3 x4 x5 i).y := by
  unfold Sample.centre
  rw [← kX x0 x1 x2 x3 x4 x5 i, ← y x0 x1 x2 x3 x4 x5 i]
  rfl

/-- The first coordinate is the greater. -/
theorem wide : k0_pay36 (k0_pay59 x0 x1 x2 x3 x4 x5) (k0_pay61 x0 x1 x2 x3 x4 x5) (k0_pay62 x0 x1 x2 x3 x4 x5) i = Sample.wide (smp x0 x1 x2 x3 x4 x5 i).kX (smp x0 x1 x2 x3 x4 x5 i).y := by
  unfold Sample.wide
  rw [← xor_one, ← centre x0 x1 x2 x3 x4 x5 i, ← kX x0 x1 x2 x3 x4 x5 i, ← y x0 x1 x2 x3 x4 x5 i]
  rfl

/-- The disk's radius. -/
theorem kRad : k0_pay37 (k0_pay59 x0 x1 x2 x3 x4 x5) (k0_pay61 x0 x1 x2 x3 x4 x5) (k0_pay62 x0 x1 x2 x3 x4 x5) i = (smp x0 x1 x2 x3 x4 x5 i).kRad := by
  unfold Sample.kRad
  rw [← wide x0 x1 x2 x3 x4 x5 i, ← kX x0 x1 x2 x3 x4 x5 i, ← y x0 x1 x2 x3 x4 x5 i]
  rfl

/-- The kernel's one angle. -/
theorem kAng : k0_pay38 (k0_pay59 x0 x1 x2 x3 x4 x5) (k0_pay61 x0 x1 x2 x3 x4 x5) (k0_pay62 x0 x1 x2 x3 x4 x5) (k0_pay64 x0 x1 x2 x3 x4 x5) i = (smp x0 x1 x2 x3 x4 x5 i).kAng := by
  unfold Sample.kAng Sample.kQuot Sample.safe
  rw [← wide x0 x1 x2 x3 x4 x5 i, ← kX x0 x1 x2 x3 x4 x5 i, ← y x0 x1 x2 x3 x4 x5 i, ← lam x0 x1 x2 x3 x4 x5 i, ← theta x0 x1 x2 x3 x4 x5 i]
  rfl

/-- The cosine of the angle. -/
theorem cosAng : k0_pay72 x0 x1 x2 x3 x4 x5 i = Ideal.cos (smp x0 x1 x2 x3 x4 x5 i).kAng := by rw [← kAng x0 x1 x2 x3 x4 x5 i]; rfl

/-- The first result's first coordinate. -/
theorem kZ0 : k0_pay73 x0 x1 x2 x3 x4 x5 i = (smp x0 x1 x2 x3 x4 x5 i).kZ0 := by
  unfold Sample.kZ0
  rw [← lam x0 x1 x2 x3 x4 x5 i, ← centre x0 x1 x2 x3 x4 x5 i, ← kRad x0 x1 x2 x3 x4 x5 i, ← cosAng x0 x1 x2 x3 x4 x5 i, ← kR x0 x1 x2 x3 x4 x5 i, ← scale0 x0 x1 x2 x3 x4 x5 i, ← loc0 x0 x1 x2 x3 x4 x5 i]
  rfl

/-- The first result's second coordinate. -/
theorem kZ1 : k0_pay74 x0 x1 x2 x3 x4 x5 i = (smp x0 x1 x2 x3 x4 x5 i).kZ1 := by
  unfold Sample.kZ1
  rw [← lam x0 x1 x2 x3 x4 x5 i, ← centre x0 x1 x2 x3 x4 x5 i, ← kRad x0 x1 x2 x3 x4 x5 i, ← kAng x0 x1 x2 x3 x4 x5 i, ← kR x0 x1 x2 x3 x4 x5 i, ← scale1 x0 x1 x2 x3 x4 x5 i, ← loc1 x0 x1 x2 x3 x4 x5 i]
  rfl

/-- The second Gaussian's first normalised offset. -/
theorem norm20 : k0_pay42 (k0_pay52 x0 x1 x2 x3 x4 x5) (k0_pay56 x0 x1 x2 x3 x4 x5) (k0_pay61 x0 x1 x2 x3 x4 x5) (k0_pay63 x0 x1 x2 x3 x4 x5) (k0_pay65 x0 x1 x2 x3 x4 x5) (k0_pay67 x0 x1 x2 x3 x4 x5) (k0_pay69 x0 x1 x2 x3 x4 x5) (k0_pay70 x0 x1 x2 x3 x4 x5) (k0_pay72 x0 x1 x2 x3 x4 x5) i = ((smp x0 x1 x2 x3 x4 x5 i).kZ0 - (smp x0 x1 x2 x3 x4 x5 i).o 2) * Ideal.exp (Sample.cZero - (smp x0 x1 x2 x3 x4 x5 i).o 6) := by rw [← kZ0 x0 x1 x2 x3 x4 x5 i, ← row2 x0 x1 x2 x3 x4 x5 i, ← row6 x0 x1 x2 x3 x4 x5 i]; rfl

/-- The second Gaussian's second normalised offset. -/
theorem norm21 : k0_pay43 (k0_pay53 x0 x1 x2 x3 x4 x5) (k0_pay57 x0 x1 x2 x3 x4 x5) (k0_pay61 x0 x1 x2 x3 x4 x5) (k0_pay63 x0 x1 x2 x3 x4 x5) (k0_pay66 x0 x1 x2 x3 x4 x5) (k0_pay68 x0 x1 x2 x3 x4 x5) (k0_pay69 x0 x1 x2 x3 x4 x5) (k0_pay70 x0 x1 x2 x3 x4 x5) (k0_pay71 x0 x1 x2 x3 x4 x5) i = ((smp x0 x1 x2 x3 x4 x5 i).kZ1 - (smp x0 x1 x2 x3 x4 x5 i).o 3) * Ideal.exp (Sample.cZero - (smp x0 x1 x2 x3 x4 x5 i).o 7) := by rw [← kZ1 x0 x1 x2 x3 x4 x5 i, ← row3 x0 x1 x2 x3 x4 x5 i, ← row7 x0 x1 x2 x3 x4 x5 i]; rfl

/-- The first Gaussian's log density. -/
theorem gauss1 : k0_pay44 (k0_pay50 x0 x1 x2 x3 x4 x5) (k0_pay51 x0 x1 x2 x3 x4 x5) (k0_pay54 x0 x1 x2 x3 x4 x5) (k0_pay55 x0 x1 x2 x3 x4 x5) (k0_pay15 (k0_pay49 x0 x1 x2 x3 x4 x5) (k0_pay58 x0 x1 x2 x3 x4 x5)) (k0_pay61 x0 x1 x2 x3 x4 x5) (k0_pay63 x0 x1 x2 x3 x4 x5) (k0_pay65 x0 x1 x2 x3 x4 x5) (k0_pay66 x0 x1 x2 x3 x4 x5) (k0_pay67 x0 x1 x2 x3 x4 x5) (k0_pay68 x0 x1 x2 x3 x4 x5) (k0_pay69 x0 x1 x2 x3 x4 x5) (k0_pay70 x0 x1 x2 x3 x4 x5) (k0_pay71 x0 x1 x2 x3 x4 x5) (k0_pay72 x0 x1 x2 x3 x4 x5) i = Sample.kGauss (smp x0 x1 x2 x3 x4 x5 i).w0 ((smp x0 x1 x2 x3 x4 x5 i).o 0) ((smp x0 x1 x2 x3 x4 x5 i).o 1) ((smp x0 x1 x2 x3 x4 x5 i).o 4) ((smp x0 x1 x2 x3 x4 x5 i).o 5) (smp x0 x1 x2 x3 x4 x5 i).kZ0 (smp x0 x1 x2 x3 x4 x5 i).kZ1 := by
  unfold Sample.kGauss Sample.logGauss
  rw [← kZ0 x0 x1 x2 x3 x4 x5 i, ← kZ1 x0 x1 x2 x3 x4 x5 i, ← row0 x0 x1 x2 x3 x4 x5 i, ← row1 x0 x1 x2 x3 x4 x5 i, ← row4 x0 x1 x2 x3 x4 x5 i, ← row5 x0 x1 x2 x3 x4 x5 i, ← w0 x0 x1 x2 x3 x4 x5 i]
  rfl

/-- The second Gaussian's regularised weight. -/
theorem reg2 : k0_pay45 (k0_pay16 (k0_pay49 x0 x1 x2 x3 x4 x5) (k0_pay58 x0 x1 x2 x3 x4 x5)) i = (smp x0 x1 x2 x3 x4 x5 i).w1 + Sample.cEps := by rw [← w1 x0 x1 x2 x3 x4 x5 i]; rfl

/-- The second result. -/
theorem kLp : k0_pay48 (k0_pay56 x0 x1 x2 x3 x4 x5) (k0_pay57 x0 x1 x2 x3 x4 x5) (k0_pay17 (k0_pay49 x0 x1 x2 x3 x4 x5) (k0_pay58 x0 x1 x2 x3 x4 x5)) (k0_pay73 x0 x1 x2 x3 x4 x5) (k0_pay74 x0 x1 x2 x3 x4 x5) (k0_pay42 (k0_pay52 x0 x1 x2 x3 x4 x5) (k0_pay56 x0 x1 x2 x3 x4 x5) (k0_pay61 x0 x1 x2 x3 x4 x5) (k0_pay63 x0 x1 x2 x3 x4 x5) (k0_pay65 x0 x1 x2 x3 x4 x5) (k0_pay67 x0 x1 x2 x3 x4 x5) (k0_pay69 x0 x1 x2 x3 x4 x5) (k0_pay70 x0 x1 x2 x3 x4 x5) (k0_pay72 x0 x1 x2 x3 x4 x5)) (k0_pay43 (k0_pay53 x0 x1 x2 x3 x4 x5) (k0_pay57 x0 x1 x2 x3 x4 x5) (k0_pay61 x0 x1 x2 x3 x4 x5) (k0_pay63 x0 x1 x2 x3 x4 x5) (k0_pay66 x0 x1 x2 x3 x4 x5) (k0_pay68 x0 x1 x2 x3 x4 x5) (k0_pay69 x0 x1 x2 x3 x4 x5) (k0_pay70 x0 x1 x2 x3 x4 x5) (k0_pay71 x0 x1 x2 x3 x4 x5)) (k0_pay44 (k0_pay50 x0 x1 x2 x3 x4 x5) (k0_pay51 x0 x1 x2 x3 x4 x5) (k0_pay54 x0 x1 x2 x3 x4 x5) (k0_pay55 x0 x1 x2 x3 x4 x5) (k0_pay15 (k0_pay49 x0 x1 x2 x3 x4 x5) (k0_pay58 x0 x1 x2 x3 x4 x5)) (k0_pay61 x0 x1 x2 x3 x4 x5) (k0_pay63 x0 x1 x2 x3 x4 x5) (k0_pay65 x0 x1 x2 x3 x4 x5) (k0_pay66 x0 x1 x2 x3 x4 x5) (k0_pay67 x0 x1 x2 x3 x4 x5) (k0_pay68 x0 x1 x2 x3 x4 x5) (k0_pay69 x0 x1 x2 x3 x4 x5) (k0_pay70 x0 x1 x2 x3 x4 x5) (k0_pay71 x0 x1 x2 x3 x4 x5) (k0_pay72 x0 x1 x2 x3 x4 x5)) (k0_pay45 (k0_pay16 (k0_pay49 x0 x1 x2 x3 x4 x5) (k0_pay58 x0 x1 x2 x3 x4 x5))) (ix3 0 (i 0) (i 1)) = (smp x0 x1 x2 x3 x4 x5 i).kLp := by
  unfold Sample.kLp Sample.kLse Sample.kLamb Sample.outside
  rw [← gauss1 x0 x1 x2 x3 x4 x5 i]
  unfold Sample.kGauss Sample.logGauss
  rw [← norm20 x0 x1 x2 x3 x4 x5 i, ← norm21 x0 x1 x2 x3 x4 x5 i, ← reg2 x0 x1 x2 x3 x4 x5 i, ← row6 x0 x1 x2 x3 x4 x5 i, ← row7 x0 x1 x2 x3 x4 x5 i, ← kZ0 x0 x1 x2 x3 x4 x5 i, ← kZ1 x0 x1 x2 x3 x4 x5 i, ← w2 x0 x1 x2 x3 x4 x5 i]
  unfold k0_pay48
  refine (shapeCast_apply (s := S256x128) (t := S1x256x128) _ _ (ix3 0 (i 0) (i 1)) i (by rw [Shape.rowMajor_val_three, Shape.rowMajor_val_two]; show (i 0).val * 128 + (i 1).val = (0 * 256 + (i 0).val) * 128 + (i 1).val; omega)).trans ?_
  rfl

/-- The first output block's plane 0 holds the first coordinate. -/
theorem out6_0 (i : S256x128.Idx) : out0_6 x0 x1 x2 x3 x4 x5 (ix4 0 0 (i 0) (i 1)) = (smp x0 x1 x2 x3 x4 x5 i).kZ0 := by
  unfold out0_6
  refine View.canon_eq_of_allAt _ _ _ (cover0_6 _ _ _) (View.allAt_cons _ _ _ ?_ (View.allAt_cons _ _ _ ?_ (View.allAt_nil _ _)))
  · intro x hx
    exact absurd (congrArg (fun q : S1x2x256x128.Idx => (q 1).val) hx) (by
      show ¬ (1 + 1 * (x 1).val = 0); omega)
  · intro x hx
    unfold k0_pay46
    refine (shapeCast_apply (s := S256x128) (t := S1x1x256x128) _ _ x i (by
      have h0 : (x 0).val < 1 := (x 0).isLt
      have h1 : (x 1).val < 1 := (x 1).isLt
      have e2 : 0 + 1 * (x 2).val = (i 0).val := congrArg (fun q : S1x2x256x128.Idx => (q 2).val) hx
      have e3 : 0 + 1 * (x 3).val = (i 1).val := congrArg (fun q : S1x2x256x128.Idx => (q 3).val) hx
      rw [Shape.rowMajor_val_two, Shape.rowMajor_val_four]
      show (i 0).val * 128 + (i 1).val = (((x 0).val * 1 + (x 1).val) * 256 + (x 2).val) * 128 + (x 3).val
      omega)).trans (kZ0 x0 x1 x2 x3 x4 x5 i)

/-- The first output block's plane 1 holds the second coordinate. -/
theorem out6_1 (i : S256x128.Idx) : out0_6 x0 x1 x2 x3 x4 x5 (ix4 0 1 (i 0) (i 1)) = (smp x0 x1 x2 x3 x4 x5 i).kZ1 := by
  unfold out0_6
  refine View.canon_eq_of_allAt _ _ _ (cover0_6 _ _ _) (View.allAt_cons _ _ _ ?_ (View.allAt_cons _ _ _ ?_ (View.allAt_nil _ _)))
  · intro x hx
    unfold k0_pay47
    refine (shapeCast_apply (s := S256x128) (t := S1x1x256x128) _ _ x i (by
      have h0 : (x 0).val < 1 := (x 0).isLt
      have h1 : (x 1).val < 1 := (x 1).isLt
      have e2 : 0 + 1 * (x 2).val = (i 0).val := congrArg (fun q : S1x2x256x128.Idx => (q 2).val) hx
      have e3 : 0 + 1 * (x 3).val = (i 1).val := congrArg (fun q : S1x2x256x128.Idx => (q 3).val) hx
      rw [Shape.rowMajor_val_two, Shape.rowMajor_val_four]
      show (i 0).val * 128 + (i 1).val = (((x 0).val * 1 + (x 1).val) * 256 + (x 2).val) * 128 + (x 3).val
      omega)).trans (kZ1 x0 x1 x2 x3 x4 x5 i)
  · intro x hx
    have h1 : (x 1).val < 1 := (x 1).isLt
    exact absurd (congrArg (fun q : S1x2x256x128.Idx => (q 1).val) hx) (by
      show ¬ (0 + 1 * (x 1).val = 1); omega)

/-- The second output block holds the second result. -/
theorem out7 (i : S256x128.Idx) : out0_7 x0 x1 x2 x3 x4 x5 (ix3 0 (i 0) (i 1)) = (smp x0 x1 x2 x3 x4 x5 i).kLp := by
  unfold out0_7
  rw [View.canon_cons_unit_lit _ _ _ (by decide)]
  exact kLp x0 x1 x2 x3 x4 x5 i

end Cert.Block

end
-- ==== Proof.Args.lean ====
/- The argument arrays' samples: sample `n`'s network outputs and random numbers, as the problem states them. -/
module

public import proofs.«01_k».proof.Proof.Sample
public import Idealize.ShloMosaic.Lib.ValueIdxCore

@[expose] public section

noncomputable section

namespace Cert

open Idealize.ShloMosaic Idealize.ShloMosaic.ValueIdx
open scoped BigOperators

/-- The argument arrays that the results depend on. -/
structure Args where
  /-- the conditions -/
  cond : (⟨2, ![2097152, 6]⟩ : Shape).Idx → EReal
  /-- the random numbers -/
  rand : (⟨2, ![2097152, 2]⟩ : Shape).Idx → EReal
  /-- the first layer's weights -/
  W1 : (⟨2, ![6, 32]⟩ : Shape).Idx → EReal
  /-- the first layer's biases -/
  b1 : (⟨1, ![32]⟩ : Shape).Idx → EReal
  /-- the second layer's weights -/
  W2 : (⟨2, ![32, 11]⟩ : Shape).Idx → EReal
  /-- the second layer's biases -/
  b2 : (⟨1, ![11]⟩ : Shape).Idx → EReal

namespace Args

variable (a : Args)

/-- The hidden layer's unit `h` for sample `n`. -/
def hidden (n : Fin 2097152) (h : Fin 32) : EReal :=
  max ((∑ k : Fin 6, a.cond (ix2 n k) * a.W1 (ix2 k h)) + a.b1 (ix1 h)) Sample.cZero

/-- Sample `n`. -/
def smp (n : Fin 2097152) : Sample where
  o j := (∑ h : Fin 32, a.hidden n h * a.W2 (ix2 h j)) + a.b2 (ix1 j)
  rd := a.rand (ix2 n 0)
  u := a.rand (ix2 n 1)

end Args
end Cert

end
-- ==== Proof.Array.lean ====
/- The kernel's result arrays: what the launch leaves at every sample, put together from the blocks of the grid's points,
   and the two results after the host's rearrangement. -/
module

public import proofs.«01_k».proof.Proof.Block
public import proofs.«01_k».proof.Proof.Args
public import proofs.«01_k».proof.Proof.Gen.KernelIdeal.Read
public import Idealize.ShloMosaic.Lib.Pipeline.ValueKit.Geometry

@[expose] public section

noncomputable section

namespace Cert.Array

open Idealize.ShloMosaic Idealize.ShloMosaic.TcCoe Idealize.ShloMosaic.ValueIdx Idealize.ShloMosaic.StableHlo
open Cert.KernelIdeal Cert.KernelIdeal.Gen
open Idealize.SL Idealize.SL.Sem
open scoped BigOperators

variable (m : (ℓ : Loc nD τ sig) → Buf (Elt Ideal) ℓ) (c : Dev nD)

/-- The argument arrays on device `c`. -/
def args : Args where
  cond := m ((c : Thread nD τ).loc main_arg0)
  rand := m ((c : Thread nD τ).loc main_arg1)
  W1 := m ((c : Thread nD τ).loc main_arg2)
  b1 := m ((c : Thread nD τ).loc main_arg3)
  W2 := m ((c : Thread nD τ).loc main_arg4)
  b2 := m ((c : Thread nD τ).loc main_arg5)

/-! ### The arrays the launch finds -/

theorem V_v2 : V m c main_v2 = transpose S64x6x32768 [1, 0, 2]
    (shapeCast S6x64x32768 (transpose S6x2097152 [1, 0] (m ((c : Thread nD τ).loc main_arg0)) transposes_S2097152x6_S6x2097152_1_0)
      shapeCasts_S6x2097152_S6x64x32768) transposes_S6x64x32768_S64x6x32768_1_0_2 := by
  show StableHlo.after _ _ _ = _
  simp only [hostOps0, List.flatten_cons, List.flatten_nil, List.append_nil, List.cons_append, List.nil_append]
  after_results <;> rfl

theorem V_v5 : V m c main_v5 = transpose S64x2x256x128 [1, 0, 2, 3]
    (shapeCast S2x64x256x128 (transpose S2x2097152 [1, 0] (m ((c : Thread nD τ).loc main_arg1)) transposes_S2097152x2_S2x2097152_1_0)
      shapeCasts_S2x2097152_S2x64x256x128) transposes_S2x64x256x128_S64x2x256x128_1_0_2_3 := by
  show StableHlo.after _ _ _ = _
  simp only [hostOps0, List.flatten_cons, List.flatten_nil, List.append_nil, List.cons_append, List.nil_append]
  after_results <;> rfl

theorem V_v6 : V m c main_v6 = transpose S32x6 [1, 0] (m ((c : Thread nD τ).loc main_arg2)) transposes_S6x32_S32x6_1_0 := by
  show StableHlo.after _ _ _ = _
  simp only [hostOps0, List.flatten_cons, List.flatten_nil, List.append_nil, List.cons_append, List.nil_append]
  after_results <;> rfl

theorem V_v7 : V m c main_v7 = shapeCast S32x1 (m ((c : Thread nD τ).loc main_arg3)) shapeCasts_S32_S32x1 := by
  show StableHlo.after _ _ _ = _
  simp only [hostOps0, List.flatten_cons, List.flatten_nil, List.append_nil, List.cons_append, List.nil_append]
  after_results <;> rfl

theorem V_v8 : V m c main_v8 = transpose S11x32 [1, 0] (m ((c : Thread nD τ).loc main_arg4)) transposes_S32x11_S11x32_1_0 := by
  show StableHlo.after _ _ _ = _
  simp only [hostOps0, List.flatten_cons, List.flatten_nil, List.append_nil, List.cons_append, List.nil_append]
  after_results <;> rfl

theorem V_v9 : V m c main_v9 = shapeCast S11x1 (m ((c : Thread nD τ).loc main_arg5)) shapeCasts_S11_S11x1 := by
  show StableHlo.after _ _ _ = _
  simp only [hostOps0, List.flatten_cons, List.flatten_nil, List.append_nil, List.cons_append, List.nil_append]
  after_results <;> rfl

/-- The sample at position `p` of point `t`. -/
def at_ (t : Fin 64) (p : Fin 32768) : Fin 2097152 := ⟨t.val * 32768 + p.val, by omega⟩

theorem V_v2_apply (t : Fin 64) (k : Fin 6) (p : Fin 32768) :
    V m c main_v2 (ix3 t k p) = (args m c).cond (ix2 (at_ t p) k) := by
  rw [V_v2]
  refine (transpose_apply (s := S6x64x32768) (t := S64x6x32768) [1, 0, 2] _ _ (ix3 t k p) (ix3 k t p) (fun b => match b with
    | ⟨0, _⟩ => rfl
    | ⟨1, _⟩ => rfl
    | ⟨2, _⟩ => rfl)).trans ?_
  refine (shapeCast_apply (s := S6x2097152) (t := S6x64x32768) _ _ (ix3 k t p) (ix2 k (at_ t p)) (by
    rw [Shape.rowMajor_val_three, Shape.rowMajor_val_two]
    show k.val * 2097152 + (t.val * 32768 + p.val) = (k.val * 64 + t.val) * 32768 + p.val; omega)).trans ?_
  exact transpose_apply (s := S2097152x6) (t := S6x2097152) [1, 0] _ _ (ix2 k (at_ t p)) (ix2 (at_ t p) k) (fun b => match b with
    | ⟨0, _⟩ => rfl
    | ⟨1, _⟩ => rfl)

theorem V_v5_apply (t : Fin 64) (k : Fin 2) (i : S256x128.Idx) :
    V m c main_v5 (ix4 t k (i 0) (i 1)) = (args m c).rand (ix2 (at_ t (Block.lane i)) k) := by
  rw [V_v5]
  refine (transpose_apply (s := S2x64x256x128) (t := S64x2x256x128) [1, 0, 2, 3] _ _ (ix4 t k (i 0) (i 1)) (ix4 k t (i 0) (i 1)) (fun b => match b with
    | ⟨0, _⟩ => rfl
    | ⟨1, _⟩ => rfl
    | ⟨2, _⟩ => rfl
    | ⟨3, _⟩ => rfl)).trans ?_
  refine (shapeCast_apply (s := S2x2097152) (t := S2x64x256x128) _ _ (ix4 k t (i 0) (i 1)) (ix2 k (at_ t (Block.lane i))) (by
    rw [Shape.rowMajor_val_four, Shape.rowMajor_val_two]
    show k.val * 2097152 + (t.val * 32768 + ((i 0).val * 128 + (i 1).val)) = ((k.val * 64 + t.val) * 256 + (i 0).val) * 128 + (i 1).val; omega)).trans ?_
  exact transpose_apply (s := S2097152x2) (t := S2x2097152) [1, 0] _ _ (ix2 k (at_ t (Block.lane i))) (ix2 (at_ t (Block.lane i)) k) (fun b => match b with
    | ⟨0, _⟩ => rfl
    | ⟨1, _⟩ => rfl)

theorem V_v6_apply (h : Fin 32) (k : Fin 6) : V m c main_v6 (ix2 h k) = (args m c).W1 (ix2 k h) := by
  rw [V_v6]
  exact transpose_apply (s := S6x32) (t := S32x6) [1, 0] _ _ (ix2 h k) (ix2 k h) (fun b => match b with
    | ⟨0, _⟩ => rfl
    | ⟨1, _⟩ => rfl)

theorem V_v7_apply (h : Fin 32) : V m c main_v7 (ix2 h 0) = (args m c).b1 (ix1 h) := by
  rw [V_v7]
  exact shapeCast_apply (s := S32) (t := S32x1) _ _ (ix2 h 0) (ix1 h) (by
    rw [Shape.rowMajor_val_one, Shape.rowMajor_val_two]; show h.val = h.val * 1 + 0; omega)

theorem V_v8_apply (j : Fin 11) (h : Fin 32) : V m c main_v8 (ix2 j h) = (args m c).W2 (ix2 h j) := by
  rw [V_v8]
  exact transpose_apply (s := S32x11) (t := S11x32) [1, 0] _ _ (ix2 j h) (ix2 h j) (fun b => match b with
    | ⟨0, _⟩ => rfl
    | ⟨1, _⟩ => rfl)

theorem V_v9_apply (j : Fin 11) : V m c main_v9 (ix2 j 0) = (args m c).b2 (ix1 j) := by
  rw [V_v9]
  exact shapeCast_apply (s := S11) (t := S11x1) _ _ (ix2 j 0) (ix1 j) (by
    rw [Shape.rowMajor_val_one, Shape.rowMajor_val_two]; show j.val = j.val * 1 + 0; omega)

/-! ### The blocks of a grid point -/

/-- Every window's block index at a point. -/
theorem idx : ∀ t : Fin cfg0.N, win0_0.index t = ![t.val, 0, 0] ∧ win0_1.index t = ![t.val, 0, 0, 0]
    ∧ win0_2.index t = ![0, 0] ∧ win0_3.index t = ![0, 0] ∧ win0_4.index t = ![0, 0] ∧ win0_5.index t = ![0, 0]
    ∧ win0_6.index t = ![t.val, 0, 0, 0] ∧ win0_7.index t = ![t.val, 0, 0] :=
  (by decide +kernel : ∀ t : Fin grid0.N, _)

/-- A grid point as a number below 64. -/
def pt (t : Fin cfg0.N) : Fin 64 := ⟨t.val, by have h : cfg0.N = 64 := N_0; have := t.isLt; omega⟩

theorem iblk0_apply (t : Fin cfg0.N) (k : Fin 6) (p : Fin 32768) :
    iblk m c 0 t (ix3 0 k p) = (args m c).cond (ix2 (at_ (pt t) p) k) := by
  rw [← V_v2_apply]
  blk_simp [iblk]
  refine congrArg (V m c main_v2) ?_
  blk_ext [(idx t).1]
  all_goals rfl

theorem iblk1_apply (t : Fin cfg0.N) (k : Fin 2) (i : S256x128.Idx) :
    iblk m c 1 t (ix4 0 k (i 0) (i 1)) = (args m c).rand (ix2 (at_ (pt t) (Block.lane i)) k) := by
  rw [← V_v5_apply]
  blk_simp [iblk]
  refine congrArg (V m c main_v5) ?_
  blk_ext [(idx t).2.1]
  all_goals rfl

theorem iblk2_apply (t : Fin cfg0.N) (h : Fin 32) (k : Fin 6) :
    iblk m c 2 t (ix2 h k) = (args m c).W1 (ix2 k h) := by
  rw [← V_v6_apply]
  blk_simp [iblk]
  refine congrArg (V m c main_v6) ?_
  blk_ext [(idx t).2.2.1]

theorem iblk3_apply (t : Fin cfg0.N) (h : Fin 32) : iblk m c 3 t (ix2 h 0) = (args m c).b1 (ix1 h) := by
  rw [← V_v7_apply]
  blk_simp [iblk]
  refine congrArg (V m c main_v7) ?_
  blk_ext [(idx t).2.2.2.1]

theorem iblk4_apply (t : Fin cfg0.N) (j : Fin 11) (h : Fin 32) :
    iblk m c 4 t (ix2 j h) = (args m c).W2 (ix2 h j) := by
  rw [← V_v8_apply]
  blk_simp [iblk]
  refine congrArg (V m c main_v8) ?_
  blk_ext [(idx t).2.2.2.2.1]

theorem iblk5_apply (t : Fin cfg0.N) (j : Fin 11) : iblk m c 5 t (ix2 j 0) = (args m c).b2 (ix1 j) := by
  rw [← V_v9_apply]
  blk_simp [iblk]
  refine congrArg (V m c main_v9) ?_
  blk_ext [(idx t).2.2.2.2.2.1]

/-- A block's sample at row `r` and lane `l` is the arguments' sample at the block's place. -/
theorem smp_eq (t : Fin cfg0.N) (i : S256x128.Idx) :
    Block.smp (iblk m c 0 t) (iblk m c 1 t) (iblk m c 2 t) (iblk m c 3 t) (iblk m c 4 t) (iblk m c 5 t) i
      = (args m c).smp (at_ (pt t) (Block.lane i)) := by
  unfold Block.smp Args.smp
  rw [iblk1_apply m c t 0 i, iblk1_apply m c t 1 i]
  refine congrArg (fun o => Sample.mk o _ _) (funext fun j => ?_)
  unfold Block.out Args.hidden
  rw [iblk5_apply]
  refine congrArg (· + _) (Finset.sum_congr rfl fun h _ => ?_)
  rw [iblk4_apply, iblk3_apply, mul_comm]
  refine congrArg (fun z => max (z + _) _ * _) (Finset.sum_congr rfl fun k _ => ?_)
  rw [iblk2_apply, iblk0_apply, mul_comm]

/-! ### The result arrays -/

/-- The first result array: plane 0 of block `t` the first coordinates, plane 1 the second ones. -/
def G6 : S64x2x256x128.Idx → EReal := fun y =>
  if (y 1).val = 0 then ((args m c).smp (at_ (y 0) (Block.lane (ix2 (y 2) (y 3))))).kZ0
  else ((args m c).smp (at_ (y 0) (Block.lane (ix2 (y 2) (y 3))))).kZ1

/-- The second result array. -/
def G7 : S64x256x128.Idx → EReal := fun y => ((args m c).smp (at_ (y 0) (Block.lane (ix2 (y 1) (y 2))))).kLp

/-- The first output block at an index. -/
theorem blk6 (t : Fin cfg0.N) (y : S1x2x256x128.Idx) :
    out0_6 (iblk m c 0 t) (iblk m c 1 t) (iblk m c 2 t) (iblk m c 3 t) (iblk m c 4 t) (iblk m c 5 t) y
      = G6 m c (ix4 (pt t) (y 1) (y 2) (y 3)) := by
  obtain ⟨a, b, r, l, rfl⟩ : ∃ (a : Fin 1) (b : Fin 2) (r : Fin 256) (l : Fin 128), y = ix4 a b r l := ⟨_, _, _, _, eq_ix4 y⟩
  obtain rfl : a = 0 := Fin.ext (by omega)
  match b with
  | ⟨0, _⟩ =>
    refine (Block.out6_0 _ _ _ _ _ _ (ix2 r l)).trans ?_
    rw [smp_eq]; rfl
  | ⟨1, _⟩ =>
    refine (Block.out6_1 _ _ _ _ _ _ (ix2 r l)).trans ?_
    rw [smp_eq]; rfl

/-- The second output block at an index. -/
theorem blk7 (t : Fin cfg0.N) (y : S1x256x128.Idx) :
    out0_7 (iblk m c 0 t) (iblk m c 1 t) (iblk m c 2 t) (iblk m c 3 t) (iblk m c 4 t) (iblk m c 5 t) y
      = G7 m c (ix3 (pt t) (y 1) (y 2)) := by
  obtain ⟨a, r, l, rfl⟩ : ∃ (a : Fin 1) (r : Fin 256) (l : Fin 128), y = ix3 a r l := ⟨_, _, _, eq_ix3 y⟩
  obtain rfl : a = 0 := Fin.ext (by omega)
  refine (Block.out7 _ _ _ _ _ _ (ix2 r l)).trans ?_
  rw [smp_eq]; rfl

theorem final6 : (dats m 0 c).arrAt 6 cfg0.N = G6 m c := by
  refine (dats m 0 c).arrAt_eq_of_covers 6 _ (by decide +kernel) fun t hf y => ?_
  blk_simp
  rw [after0_6]
  refine (blk6 m c t y).trans (congrArg (G6 m c) ?_)
  blk_ext [(idx t).2.2.2.2.2.2.1]
  all_goals rfl

theorem final7 : (dats m 0 c).arrAt 7 cfg0.N = G7 m c := by
  refine (dats m 0 c).arrAt_eq_of_covers 7 _ (by decide +kernel) fun t hf y => ?_
  blk_simp
  rw [after0_7]
  refine (blk7 m c t y).trans (congrArg (G7 m c) ?_)
  blk_ext [(idx t).2.2.2.2.2.2.2]
  all_goals rfl

/-! ### The results -/

/-- The kernel's first result at sample `n`, first coordinate. -/
theorem res1_0 (n : Fin 2097152) :
    Read.val_main_v13 (F := Ideal) (Value.reg_main_v10_0 m c) (ix2 n 0) = ((args m c).smp n).kZ0 := by
  rw [Read.val_main_v13_apply, Read.val_main_v12_apply, Read.val_main_v11_apply]
  unfold Value.reg_main_v10_0
  rw [final6]
  unfold G6
  rw [if_pos (by show (0 * 2097152 + n.val) / 2097152 = 0; omega)]
  refine congrArg (fun q => ((args m c).smp q).kZ0) (Fin.ext ?_)
  show (0 * 2097152 + n.val) / 32768 % 64 * 32768 + ((0 * 2097152 + n.val) / 128 % 256 * 128 + (0 * 2097152 + n.val) % 128) = n.val
  omega

/-- The kernel's first result at sample `n`, second coordinate. -/
theorem res1_1 (n : Fin 2097152) :
    Read.val_main_v13 (F := Ideal) (Value.reg_main_v10_0 m c) (ix2 n 1) = ((args m c).smp n).kZ1 := by
  rw [Read.val_main_v13_apply, Read.val_main_v12_apply, Read.val_main_v11_apply]
  unfold Value.reg_main_v10_0
  rw [final6]
  unfold G6
  rw [if_neg (by show ¬ (1 * 2097152 + n.val) / 2097152 = 0; omega)]
  refine congrArg (fun q => ((args m c).smp q).kZ1) (Fin.ext ?_)
  show (1 * 2097152 + n.val) / 32768 % 64 * 32768 + ((1 * 2097152 + n.val) / 128 % 256 * 128 + (1 * 2097152 + n.val) % 128) = n.val
  omega

/-- The kernel's second result at sample `n`. -/
theorem res2 (n : Fin 2097152) :
    Read.val_main_v14 (F := Ideal) (Value.reg_main_v10_1 m c) (ix1 n) = ((args m c).smp n).kLp := by
  rw [Read.val_main_v14_apply]
  unfold Value.reg_main_v10_1
  rw [final7]
  unfold G7
  refine congrArg (fun q => ((args m c).smp q).kLp) (Fin.ext ?_)
  show n.val / 32768 * 32768 + (n.val / 128 % 256 * 128 + n.val % 128) = n.val
  omega

end Cert.Array

end
-- ==== Proof.Ref.lean ====
/- The reference's result arrays at every sample: each stage of the reference, read at a sample, is the sample's function
   of that name; the two results are `rZ0`, `rZ1` and `rLp`. -/
module

public import proofs.«01_k».proof.Proof.Args
public import proofs.«01_k».proof.Proof.ScalarEq
public import proofs.«01_k».proof.Proof.Gen.ReferenceIdeal.Read
public import Idealize.ShloMosaic.Lib.Pipeline.ValueKit.Geometry

@[expose] public section

noncomputable section

namespace Cert.Ref

open Idealize.ShloMosaic Idealize.ShloMosaic.TcCoe Idealize.ShloMosaic.ValueIdx Idealize.ShloMosaic.StableHlo
open Cert.ReferenceIdeal Cert.ReferenceIdeal.Gen Cert.ReferenceIdeal.Read Cert.Sample
open scoped BigOperators

/-! ### Indices from their coordinates -/

theorem idx1 {A : Nat} (i : (⟨1, ![A]⟩ : Shape).Idx) (p : Fin A) (h : (i 0).val = p.val) : i = ix1 p :=
  funext fun b => match b with
    | ⟨0, _⟩ => Fin.ext h

theorem idx2 {A B : Nat} (i : (⟨2, ![A, B]⟩ : Shape).Idx) (p : Fin A) (q : Fin B) (h0 : (i 0).val = p.val)
    (h1 : (i 1).val = q.val) : i = ix2 p q :=
  funext fun b => match b with
    | ⟨0, _⟩ => Fin.ext h0
    | ⟨1, _⟩ => Fin.ext h1

theorem idx3 {A B C : Nat} (i : (⟨3, ![A, B, C]⟩ : Shape).Idx) (p : Fin A) (q : Fin B) (r : Fin C)
    (h0 : (i 0).val = p.val) (h1 : (i 1).val = q.val) (h2 : (i 2).val = r.val) : i = ix3 p q r :=
  funext fun b => match b with
    | ⟨0, _⟩ => Fin.ext h0
    | ⟨1, _⟩ => Fin.ext h1
    | ⟨2, _⟩ => Fin.ext h2

/-! ### Joined columns -/

/-- The first of two joined columns. -/
theorem cat2_0 {α : Type} (x y : S2097152x1.Idx → α) (h : Shape.Concatenates [S2097152x1, S2097152x1] S2097152x2 1)
    (n : Fin 2097152) : concatenate S2097152x2 1 [⟨S2097152x1, x⟩, ⟨S2097152x1, y⟩] h (ix2 n 0) = x (ix2 n 0) :=
  concatenate_pair_apply_left (t := S2097152x2) (s₁ := S2097152x1) (s₂ := S2097152x1) 1 x y h (ix2 n 0) rfl (ix2 n 0)
    (fun b => match b with
      | ⟨0, _⟩ => rfl
      | ⟨1, _⟩ => rfl)

/-- The second of two joined columns. -/
theorem cat2_1 {α : Type} (x y : S2097152x1.Idx → α) (h : Shape.Concatenates [S2097152x1, S2097152x1] S2097152x2 1)
    (n : Fin 2097152) : concatenate S2097152x2 1 [⟨S2097152x1, x⟩, ⟨S2097152x1, y⟩] h (ix2 n 1) = y (ix2 n 0) :=
  concatenate_pair_apply_right (t := S2097152x2) (s₁ := S2097152x1) (s₂ := S2097152x1) 1 x y h (ix2 n 1) rfl rfl (ix2 n 0)
    (fun b hb => match b, hb with
      | ⟨0, _⟩, _ => rfl
      | ⟨1, _⟩, hb => absurd rfl hb) rfl

/-- Of two columns joined with a third, one of the two. -/
theorem cat3_left {α : Type} (x : S2097152x2.Idx → α) (y : S2097152x1.Idx → α)
    (h : Shape.Concatenates [S2097152x2, S2097152x1] S2097152x3 1) (n : Fin 2097152) (k : Fin 3) (j : Fin 2) (hj : j.val = k.val) :
    concatenate S2097152x3 1 [⟨S2097152x2, x⟩, ⟨S2097152x1, y⟩] h (ix2 n k) = x (ix2 n j) :=
  concatenate_pair_apply_left (t := S2097152x3) (s₁ := S2097152x2) (s₂ := S2097152x1) 1 x y h (ix2 n k) rfl (ix2 n j)
    (fun b => match b with
      | ⟨0, _⟩ => rfl
      | ⟨1, _⟩ => hj)

/-- Of two columns joined with a third, the third. -/
theorem cat3_right {α : Type} (x : S2097152x2.Idx → α) (y : S2097152x1.Idx → α)
    (h : Shape.Concatenates [S2097152x2, S2097152x1] S2097152x3 1) (n : Fin 2097152) :
    concatenate S2097152x3 1 [⟨S2097152x2, x⟩, ⟨S2097152x1, y⟩] h (ix2 n 2) = y (ix2 n 0) :=
  concatenate_pair_apply_right (t := S2097152x3) (s₁ := S2097152x2) (s₂ := S2097152x1) 1 x y h (ix2 n 2) rfl rfl (ix2 n 0)
    (fun b hb => match b, hb with
      | ⟨0, _⟩, _ => rfl
      | ⟨1, _⟩, hb => absurd rfl hb) rfl

/-! ### Running sums of three -/

/-- A window of one row and three columns. -/
abbrev W3 : Shape := ⟨2, ![1, 3]⟩

theorem W3_numel : W3.numel = 3 := by decide

theorem W3_row : ∀ k : Fin 3, ((W3.rowMajor.symm (k.cast W3_numel.symm)) 0).val = 0 := by decide

theorem W3_col : ∀ k : Fin 3, ((W3.rowMajor.symm (k.cast W3_numel.symm)) 1).val = k.val := by decide

theorem W3_list : List.finRange W3.numel
    = [(0 : Fin 3).cast W3_numel.symm, (1 : Fin 3).cast W3_numel.symm, (2 : Fin 3).cast W3_numel.symm] := by decide

/-- The fold over the three window positions that the running sum at column `j` is. -/
theorem running (x : S2097152x3.Idx → EReal) (v : S_.Idx → EReal)
    (h : S2097152x3.ReduceWindows (![1, 3] : Fin 2 → Nat) ![1, 1] ![0, 2] ![0, 0] S2097152x3) (hu : 0 < S_.numel)
    (n : Fin 2097152) (j : Fin 3) (f : Fin 3 → EReal)
    (hf : ∀ k : Fin 3, f k = if hk : 2 ≤ j.val + k.val then x (ix2 n ⟨j.val + k.val - 2, by omega⟩) else v (Shape.Idx.first hu)) :
    Host.reduceWindowAdd (F := Ideal) (φ := .f32) ![1, 3] ![1, 1] ![0, 2] ![0, 0] x v h hu (ix2 n j)
      = v (Shape.Idx.first hu) + f 0 + f 1 + f 2 := by
  have step : ∀ (k : Fin 3) (p : Fin 2 → Nat)
      (d : Decidable (∀ b : Fin 2, (![0, 2] : Fin 2 → Nat) b ≤ p b ∧ p b - (![0, 2] : Fin 2 → Nat) b < S2097152x3.size b))
      (hp0 : p 0 = n.val) (hp1 : p 1 = j.val + k.val),
      @dite EReal (∀ b : Fin 2, (![0, 2] : Fin 2 → Nat) b ≤ p b ∧ p b - (![0, 2] : Fin 2 → Nat) b < S2097152x3.size b) d
        (fun hin => x (fun b => ⟨p b - (![0, 2] : Fin 2 → Nat) b, (hin b).2⟩)) (fun _ => v (Shape.Idx.first hu)) = f k := by
    intro k p d hp0 hp1
    rw [hf]
    have hk := k.isLt
    have hj := j.isLt
    have hnn := n.isLt
    by_cases c : 2 ≤ j.val + k.val
    · rw [dif_pos c, dif_pos (fun b => match b with
        | ⟨0, _⟩ => by show 0 ≤ p 0 ∧ p 0 - 0 < 2097152; omega
        | ⟨1, _⟩ => by show 2 ≤ p 1 ∧ p 1 - 2 < 3; omega)]
      refine congrArg x (idx2 _ n _ ?_ ?_)
      · show p 0 - 0 = n.val; omega
      · show p 1 - 2 = j.val + k.val - 2; omega
    · rw [dif_neg c, dif_neg (fun hin => c (by have := (hin 1).1; change 2 ≤ p 1 at this; omega))]
  show Host.reduceWindow (· + ·) ![1, 3] ![1, 1] ![0, 2] ![0, 0] x (fun _ : (⟨0, ![]⟩ : Shape).Idx => v (Shape.Idx.first hu)) h hu
    (ix2 n j) = _
  unfold Host.reduceWindow
  dsimp only
  refine (congrArg (List.foldl _ _) W3_list).trans ?_
  simp only [List.foldl_cons, List.foldl_nil]
  refine congrArg₂ (· + ·) (congrArg₂ (· + ·) (congrArg₂ (· + ·) rfl ?_) ?_) ?_
  · exact step 0 (fun b => (ix2 n j b).val * (![1, 1] : Fin 2 → Nat) b + (W3.rowMajor.symm ((0 : Fin 3).cast W3_numel.symm) b).val) _
      (by show n.val * 1 + _ = n.val; rw [W3_row]; omega) (by show j.val * 1 + _ = _; rw [W3_col]; omega)
  · exact step 1 (fun b => (ix2 n j b).val * (![1, 1] : Fin 2 → Nat) b + (W3.rowMajor.symm ((1 : Fin 3).cast W3_numel.symm) b).val) _
      (by show n.val * 1 + _ = n.val; rw [W3_row]; omega) (by show j.val * 1 + _ = _; rw [W3_col]; omega)
  · exact step 2 (fun b => (ix2 n j b).val * (![1, 1] : Fin 2 → Nat) b + (W3.rowMajor.symm ((2 : Fin 3).cast W3_numel.symm) b).val) _
      (by show n.val * 1 + _ = n.val; rw [W3_row]; omega) (by show j.val * 1 + _ = _; rw [W3_col]; omega)

variable (a : Args) (n : Fin 2097152)

/-! ### The network -/

/-- The hidden layer. -/
theorem v5 (h : Fin 32) : val_main_v5 (F := Ideal) a.cond a.W1 a.b1 (ix2 n h) = a.hidden n h := by
  have e1 : idx_main_v1 (idx_main_v2 (ix2 n h)) = ix1 h := idx1 _ h rfl
  rw [val_main_v5_apply, val_main_v3_apply, val_main_v0_apply, val_main_v2_apply, val_main_v1_apply, e1]
  refine congrArg (fun q => max (q + a.b1 (ix1 h)) cZero) (Finset.sum_congr rfl fun k _ => ?_)
  exact congrArg₂ (· * ·) (congrArg a.cond (idx2 _ n k rfl rfl)) (congrArg a.W1 (idx2 _ k h rfl rfl))

/-- The network's outputs. -/
theorem v9 (j : Fin 11) : val_main_v9 (F := Ideal) a.cond a.W1 a.b1 a.W2 a.b2 (ix2 n j) = (a.smp n).o j := by
  have e1 : idx_main_v7 (idx_main_v8 (ix2 n j)) = ix1 j := idx1 _ j rfl
  rw [val_main_v9_apply, val_main_v6_apply, val_main_v8_apply, val_main_v7_apply, e1]
  refine congrArg (fun q => q + a.b2 (ix1 j)) (Finset.sum_congr rfl fun k _ => ?_)
  exact congrArg₂ (· * ·)
    ((congrArg (val_main_v5 (F := Ideal) a.cond a.W1 a.b1) (idx2 _ n k rfl rfl)).trans (v5 a n k))
    (congrArg a.W2 (idx2 _ k j rfl rfl))

/-- Gaussian `i`'s location, coordinate `j`. -/
theorem v11 (i j : Fin 2) : val_main_v11 (F := Ideal) a.cond a.W1 a.b1 a.W2 a.b2 (ix3 n i j) = (a.smp n).o ⟨0 + (2 * i.val + j.val), by omega⟩ := by
  have e : idx_main_v10 (idx_main_v11 (ix3 n i j)) = ix2 n ⟨0 + (2 * i.val + j.val), by omega⟩ := idx2 _ n _
    (by show ((n.val * 2 + i.val) * 2 + j.val) / 4 = n.val; omega)
    (by show ((n.val * 2 + i.val) * 2 + j.val) % 4 = 0 + (2 * i.val + j.val); omega)
  rw [val_main_v11_apply, val_main_v10_apply, e, v9]

/-- Gaussian `i`'s log scale, coordinate `j`. -/
theorem v13 (i j : Fin 2) : val_main_v13 (F := Ideal) a.cond a.W1 a.b1 a.W2 a.b2 (ix3 n i j) = (a.smp n).o ⟨4 + (2 * i.val + j.val), by omega⟩ := by
  have e : idx_main_v12 (idx_main_v13 (ix3 n i j)) = ix2 n ⟨4 + (2 * i.val + j.val), by omega⟩ := idx2 _ n _
    (by show ((n.val * 2 + i.val) * 2 + j.val) / 4 = n.val; omega)
    (by show 4 + ((n.val * 2 + i.val) * 2 + j.val) % 4 = 4 + (2 * i.val + j.val); omega)
  rw [val_main_v13_apply, val_main_v12_apply, e, v9]

/-! ### The weights -/

/-- The weights' magnitudes. -/
theorem v15 (k : Fin 3) : val_main_v15 (F := Ideal) a.cond a.W1 a.b1 a.W2 a.b2 (ix2 n k) = (a.smp n).mag ⟨8 + k.val, by omega⟩ := by
  have e : idx_main_v14 (ix2 n k) = ix2 n ⟨8 + k.val, by omega⟩ := idx2 _ n _ rfl rfl
  rw [val_main_v15_apply, val_main_v14_apply, e, v9] <;> rfl

theorem v16 : val_main_v16 (F := Ideal) a.cond a.W1 a.b1 a.W2 a.b2 (ix1 n) = (a.smp n).tot := by
  have e : ∀ k : Fin 3, idx_main_v16 (ix1 n) k = ix2 n k := fun k => idx2 _ n k rfl rfl
  rw [val_main_v16_apply, Fin.sum_univ_three, e, e, e, v15, v15, v15]
  exact (congrArg (· + _) cZero_eq).trans (zero_add _)

theorem v19 (k : Fin 3) : val_main_v19 (F := Ideal) a.cond a.W1 a.b1 a.W2 a.b2 (ix2 n k)
    = Ideal.div ((a.smp n).mag ⟨8 + k.val, by omega⟩) (a.smp n).tot := by
  have e : idx_main_v17 (idx_main_v18 (ix2 n k)) = ix1 n := idx1 _ n rfl
  rw [val_main_v19_apply, v15, val_main_v18_apply, val_main_v17_apply, e, v16] <;> rfl

/-- The running sum of the weights at column 0. -/
theorem v22_0 : val_main_v22 (F := Ideal) a.cond a.W1 a.b1 a.W2 a.b2 (ix2 n 0) = (a.smp n).w0 := by
  refine (running _ _ _ _ n 0 ![cZero, cZero, (a.smp n).w0] (fun k => ?_)).trans ?_
  · match k with
    | ⟨0, _⟩ => rfl
    | ⟨1, _⟩ => rfl
    | ⟨2, _⟩ => exact (v19 a n 0).symm
  · show cZero + cZero + cZero + (a.smp n).w0 = _
    rw [cZero_eq, add_zero, add_zero, zero_add]

/-- The running sum of the weights at column 1. -/
theorem v22_1 : val_main_v22 (F := Ideal) a.cond a.W1 a.b1 a.W2 a.b2 (ix2 n 1) = (a.smp n).wc1 := by
  refine (running _ _ _ _ n 1 ![cZero, (a.smp n).w0, (a.smp n).w1] (fun k => ?_)).trans ?_
  · match k with
    | ⟨0, _⟩ => rfl
    | ⟨1, _⟩ => exact (v19 a n 0).symm
    | ⟨2, _⟩ => exact (v19 a n 1).symm
  · show cZero + cZero + (a.smp n).w0 + (a.smp n).w1 = _
    rw [cZero_eq, add_zero, zero_add]; rfl

/-! ### The choice of the component -/

theorem v21 : val_main_v21 (F := Ideal) a.rand (ix1 n) = (a.smp n).rd := by
  have e : idx_main_v20 (idx_main_v21 (ix1 n)) = ix2 n 0 := idx2 _ n 0 (Nat.div_one _) rfl
  rw [val_main_v21_apply, val_main_v20_apply, e] <;> rfl

theorem v24 : val_main_v24 (F := Ideal) a.cond a.W1 a.b1 a.W2 a.b2 (ix1 n) = (a.smp n).w0 := by
  have e : idx_main_v23 (idx_main_v24 (ix1 n)) = ix2 n 0 := idx2 _ n 0 (Nat.div_one _) rfl
  rw [val_main_v24_apply, val_main_v23_apply, e, v22_0] <;> rfl

/-- The sample is the first Gaussian's. -/
theorem v25 : val_main_v25 (F := Ideal) a.cond a.rand a.W1 a.b1 a.W2 a.b2 (ix1 n) = (a.smp n).g1 := by
  rw [val_main_v25_apply, v21, v24] <;> rfl

theorem v28 : val_main_v28 (F := Ideal) a.cond a.W1 a.b1 a.W2 a.b2 (ix1 n) = (a.smp n).wc1 := by
  have e : idx_main_v27 (idx_main_v28 (ix1 n)) = ix2 n 1 := idx2 _ n 1 (Nat.div_one _) rfl
  rw [val_main_v28_apply, val_main_v27_apply, e, v22_1] <;> rfl

/-- The sample is the second Gaussian's. -/
theorem v30 : val_main_v30 (F := Ideal) a.cond a.rand a.W1 a.b1 a.W2 a.b2 (ix1 n) = (a.smp n).g2 := by
  rw [val_main_v30_apply, val_main_v26_apply, v25, val_main_v29_apply, v21, v28] <;> rfl

theorem v31 : val_main_v31 (F := Ideal) a.cond a.rand a.W1 a.b1 a.W2 a.b2 (ix1 n) = (a.smp n).gs := by
  rw [val_main_v31_apply, v25, v30] <;> rfl

theorem v32 : val_main_v32 (F := Ideal) a.cond a.rand a.W1 a.b1 a.W2 a.b2 (ix1 n) = (a.smp n).lam := by
  rw [val_main_v32_apply, v31] <;> rfl

theorem v34 : val_main_v34 (F := Ideal) a.cond a.W1 a.b1 a.W2 a.b2 (ix1 n) = (a.smp n).w0 := by
  have e : idx_main_v33 (idx_main_v34 (ix1 n)) = ix2 n 0 := idx2 _ n 0 (Nat.div_one _) rfl
  rw [val_main_v34_apply, val_main_v33_apply, e, v22_0] <;> rfl

theorem v35 : val_main_v35 (F := Ideal) a.cond a.rand a.W1 a.b1 a.W2 a.b2 (ix1 n) = Ideal.div (a.smp n).rd (a.smp n).w0 := by
  rw [val_main_v35_apply, v21, v34] <;> rfl

theorem v37 : val_main_v37 (F := Ideal) a.cond a.W1 a.b1 a.W2 a.b2 (ix1 n) = (a.smp n).w0 := by
  have e : idx_main_v36 (idx_main_v37 (ix1 n)) = ix2 n 0 := idx2 _ n 0 (Nat.div_one _) rfl
  rw [val_main_v37_apply, val_main_v36_apply, e, v22_0] <;> rfl

theorem v40 : val_main_v40 (F := Ideal) a.cond a.W1 a.b1 a.W2 a.b2 (ix1 n) = (a.smp n).w1 := by
  have e : idx_main_v39 (idx_main_v40 (ix1 n)) = ix2 n 1 := idx2 _ n 1 (Nat.div_one _) rfl
  rw [val_main_v40_apply, val_main_v39_apply, e, v19] <;> rfl

theorem v41 : val_main_v41 (F := Ideal) a.cond a.rand a.W1 a.b1 a.W2 a.b2 (ix1 n) = Ideal.div ((a.smp n).rd - (a.smp n).w0) (a.smp n).w1 := by
  rw [val_main_v41_apply, val_main_v38_apply, v21, v37, v40] <;> rfl

theorem v43 : val_main_v43 (F := Ideal) a.cond a.W1 a.b1 a.W2 a.b2 (ix1 n) = (a.smp n).wc1 := by
  have e : idx_main_v42 (idx_main_v43 (ix1 n)) = ix2 n 1 := idx2 _ n 1 (Nat.div_one _) rfl
  rw [val_main_v43_apply, val_main_v42_apply, e, v22_1] <;> rfl

theorem v46 : val_main_v46 (F := Ideal) a.cond a.W1 a.b1 a.W2 a.b2 (ix1 n) = (a.smp n).w2 := by
  have e : idx_main_v45 (idx_main_v46 (ix1 n)) = ix2 n 2 := idx2 _ n 2 (Nat.div_one _) rfl
  rw [val_main_v46_apply, val_main_v45_apply, e, v19] <;> rfl

theorem v47 : val_main_v47 (F := Ideal) a.cond a.rand a.W1 a.b1 a.W2 a.b2 (ix1 n) = Ideal.div ((a.smp n).rd - (a.smp n).wc1) (a.smp n).w2 := by
  rw [val_main_v47_apply, val_main_v44_apply, v21, v43, v46] <;> rfl

/-- The rescaled random number. -/
theorem v49 : val_main_v49 (F := Ideal) a.cond a.rand a.W1 a.b1 a.W2 a.b2 (ix1 n) = (a.smp n).rU := by
  rw [val_main_v49_apply, v25, v35, val_main_v48_apply, v30, v41, v47] <;> rfl

theorem v51 : val_main_v51 (F := Ideal) a.rand (ix1 n) = (a.smp n).u := by
  have e : idx_main_v50 (idx_main_v51 (ix1 n)) = ix2 n 1 := idx2 _ n 1 (Nat.div_one _) rfl
  rw [val_main_v51_apply, val_main_v50_apply, e] <;> rfl

/-! ### The Gaussian branch -/

/-- The Box–Muller radius. -/
theorem v56 : val_main_v56 (F := Ideal) a.cond a.rand a.W1 a.b1 a.W2 a.b2 (ix1 n) = (a.smp n).rR := by
  rw [val_main_v56_apply, val_main_v55_apply, val_main_v54_apply, val_main_v53_apply, val_main_v52_apply, v31, v49, val_main_call3_v1_apply] <;> rfl

theorem v58 : val_main_v58 (F := Ideal) a.rand (ix1 n) = (a.smp n).theta := by
  rw [val_main_v58_apply, val_main_v57_apply, v51] <;> rfl

theorem v60 : val_main_v60 (F := Ideal) a.cond a.rand a.W1 a.b1 a.W2 a.b2 (ix1 n) = (a.smp n).rR * Ideal.cos (a.smp n).theta := by
  rw [val_main_v60_apply, v56, val_main_v59_apply, v58] <;> rfl

theorem v62 : val_main_v62 (F := Ideal) a.cond a.rand a.W1 a.b1 a.W2 a.b2 (ix1 n) = (a.smp n).rR * Ideal.sin (a.smp n).theta := by
  rw [val_main_v62_apply, v56, val_main_v61_apply, v58] <;> rfl

theorem v63 : val_main_v63 (F := Ideal) a.cond a.rand a.W1 a.b1 a.W2 a.b2 (ix2 n 0) = (a.smp n).rR * Ideal.cos (a.smp n).theta := by
  have e : idx_main_v63 (ix2 n 0) = ix1 n := idx1 _ n rfl
  rw [val_main_v63_apply, e, v60] <;> rfl

theorem v64 : val_main_v64 (F := Ideal) a.cond a.rand a.W1 a.b1 a.W2 a.b2 (ix2 n 0) = (a.smp n).rR * Ideal.sin (a.smp n).theta := by
  have e : idx_main_v64 (ix2 n 0) = ix1 n := idx1 _ n rfl
  rw [val_main_v64_apply, e, v62] <;> rfl

theorem v65_0 : val_main_v65 (F := Ideal) a.cond a.rand a.W1 a.b1 a.W2 a.b2 (ix2 n 0) = (a.smp n).rR * Ideal.cos (a.smp n).theta := by
  unfold val_main_v65
  exact (cat2_0 _ _ _ n).trans (v63 a n)

theorem v65_1 : val_main_v65 (F := Ideal) a.cond a.rand a.W1 a.b1 a.W2 a.b2 (ix2 n 1) = (a.smp n).rR * Ideal.sin (a.smp n).theta := by
  unfold val_main_v65
  exact (cat2_1 _ _ _ n).trans (v64 a n)

theorem v66 : val_main_v66 (F := Ideal) a.cond a.rand a.W1 a.b1 a.W2 a.b2 (ix2 n 0) = (a.smp n).g2 := by
  have e : idx_main_v66 (ix2 n 0) = ix1 n := idx1 _ n rfl
  rw [val_main_v66_apply, e, v30] <;> rfl

theorem v72 : val_main_v72 (F := Ideal) a.cond a.rand a.W1 a.b1 a.W2 a.b2 (ix2 n 0) = (a.smp n).g2 := by
  have e : idx_main_v72 (ix2 n 0) = ix1 n := idx1 _ n rfl
  rw [val_main_v72_apply, e, v30] <;> rfl

theorem v68 (j : Fin 2) : val_main_v68 (F := Ideal) a.cond a.W1 a.b1 a.W2 a.b2 (ix2 n j) = (a.smp n).o ⟨0 + (2 * ((1 : Fin 2)).val + j.val), by
    have := j.isLt; show 0 + (2 * 1 + j.val) < 11; omega⟩ := by
  have e : idx_main_v67 (idx_main_v68 (ix2 n j)) = ix3 n 1 j := idx3 _ n 1 j
    (by show (n.val * 2 + j.val) / 2 = n.val; omega) rfl (by show (n.val * 2 + j.val) % 2 = j.val; omega)
  rw [val_main_v68_apply, val_main_v67_apply, e, v11]

theorem v70 (j : Fin 2) : val_main_v70 (F := Ideal) a.cond a.W1 a.b1 a.W2 a.b2 (ix2 n j) = (a.smp n).o ⟨0 + (2 * ((0 : Fin 2)).val + j.val), by
    have := j.isLt; show 0 + (2 * 0 + j.val) < 11; omega⟩ := by
  have e : idx_main_v69 (idx_main_v70 (ix2 n j)) = ix3 n 0 j := idx3 _ n 0 j
    (by show (n.val * 2 + j.val) / 2 = n.val; omega) rfl (by show (n.val * 2 + j.val) % 2 = j.val; omega)
  rw [val_main_v70_apply, val_main_v69_apply, e, v11]

theorem v74 (j : Fin 2) : val_main_v74 (F := Ideal) a.cond a.W1 a.b1 a.W2 a.b2 (ix2 n j) = (a.smp n).o ⟨4 + (2 * ((1 : Fin 2)).val + j.val), by
    have := j.isLt; show 4 + (2 * 1 + j.val) < 11; omega⟩ := by
  have e : idx_main_v73 (idx_main_v74 (ix2 n j)) = ix3 n 1 j := idx3 _ n 1 j
    (by show (n.val * 2 + j.val) / 2 = n.val; omega) rfl (by show (n.val * 2 + j.val) % 2 = j.val; omega)
  rw [val_main_v74_apply, val_main_v73_apply, e, v13]

theorem v76 (j : Fin 2) : val_main_v76 (F := Ideal) a.cond a.W1 a.b1 a.W2 a.b2 (ix2 n j) = (a.smp n).o ⟨4 + (2 * ((0 : Fin 2)).val + j.val), by
    have := j.isLt; show 4 + (2 * 0 + j.val) < 11; omega⟩ := by
  have e : idx_main_v75 (idx_main_v76 (ix2 n j)) = ix3 n 0 j := idx3 _ n 0 j
    (by show (n.val * 2 + j.val) / 2 = n.val; omega) rfl (by show (n.val * 2 + j.val) % 2 = j.val; omega)
  rw [val_main_v76_apply, val_main_v75_apply, e, v13]

theorem call4_v0 (j : Fin 2) : val_main_call4_v0 (F := Ideal) a.cond a.rand a.W1 a.b1 a.W2 a.b2 (ix2 n j) = (a.smp n).g2 := by
  have e : idx_main_call4_v0 (ix2 n j) = ix2 n 0 := idx2 _ n 0 rfl rfl
  rw [val_main_call4_v0_apply, e, v66] <;> rfl

theorem call5_v0 (j : Fin 2) : val_main_call5_v0 (F := Ideal) a.cond a.rand a.W1 a.b1 a.W2 a.b2 (ix2 n j) = (a.smp n).g2 := by
  have e : idx_main_call5_v0 (ix2 n j) = ix2 n 0 := idx2 _ n 0 rfl rfl
  rw [val_main_call5_v0_apply, e, v72] <;> rfl

/-- The Gaussian branch, coordinate 0. -/
theorem v80_0 : val_main_v80 (F := Ideal) a.cond a.rand a.W1 a.b1 a.W2 a.b2 (ix2 n 0) = (a.smp n).rR * Ideal.cos (a.smp n).theta * Ideal.exp (Scalar.select (a.smp n).g2 ((a.smp n).o 6) ((a.smp n).o 4)) + (a.smp n).loc0 := by
  rw [val_main_v80_apply, val_main_v79_apply, v65_0, val_main_v78_apply, val_main_v77_apply, call5_v0, v74, v76, val_main_v71_apply, call4_v0, v68, v70] <;> rfl

/-- The Gaussian branch, coordinate 1. -/
theorem v80_1 : val_main_v80 (F := Ideal) a.cond a.rand a.W1 a.b1 a.W2 a.b2 (ix2 n 1) = (a.smp n).rR * Ideal.sin (a.smp n).theta * Ideal.exp (Scalar.select (a.smp n).g2 ((a.smp n).o 7) ((a.smp n).o 5)) + (a.smp n).loc1 := by
  rw [val_main_v80_apply, val_main_v79_apply, v65_1, val_main_v78_apply, val_main_v77_apply, call5_v0, v74, v76, val_main_v71_apply, call4_v0, v68, v70] <;> rfl

/-! ### The lambert branch -/

theorem v81 : val_main_v81 (F := Ideal) a.cond a.rand a.W1 a.b1 a.W2 a.b2 (ix2 n 0) = (a.smp n).rU := by
  have e : idx_main_v81 (ix2 n 0) = ix1 n := idx1 _ n rfl
  rw [val_main_v81_apply, e, v49] <;> rfl

theorem v82 : val_main_v82 (F := Ideal) a.rand (ix2 n 0) = (a.smp n).u := by
  have e : idx_main_v82 (ix2 n 0) = ix1 n := idx1 _ n rfl
  rw [val_main_v82_apply, e, v51] <;> rfl

theorem v83_0 : val_main_v83 (F := Ideal) a.cond a.rand a.W1 a.b1 a.W2 a.b2 (ix2 n 0) = (a.smp n).rU := by
  unfold val_main_v83
  exact (cat2_0 _ _ _ n).trans (v81 a n)

theorem v83_1 : val_main_v83 (F := Ideal) a.cond a.rand a.W1 a.b1 a.W2 a.b2 (ix2 n 1) = (a.smp n).u := by
  unfold val_main_v83
  exact (cat2_1 _ _ _ n).trans (v82 a n)

theorem v87_0 : val_main_v87 (F := Ideal) a.cond a.rand a.W1 a.b1 a.W2 a.b2 (ix2 n 0) = (a.smp n).rX := by
  rw [val_main_v87_apply, val_main_v85_apply, v83_0, val_main_v84_apply, val_main_v86_apply] <;> rfl

theorem v87_1 : val_main_v87 (F := Ideal) a.cond a.rand a.W1 a.b1 a.W2 a.b2 (ix2 n 1) = (a.smp n).y := by
  rw [val_main_v87_apply, val_main_v85_apply, v83_1, val_main_v84_apply, val_main_v86_apply] <;> rfl

theorem v89 : val_main_v89 (F := Ideal) a.cond a.rand a.W1 a.b1 a.W2 a.b2 (ix1 n) = (a.smp n).rX := by
  have e : idx_main_v88 (idx_main_v89 (ix1 n)) = ix2 n 0 := idx2 _ n 0 (Nat.div_one _) rfl
  rw [val_main_v89_apply, val_main_v88_apply, e, v87_0] <;> rfl

theorem v91 : val_main_v91 (F := Ideal) a.cond a.rand a.W1 a.b1 a.W2 a.b2 (ix1 n) = (a.smp n).y := by
  have e : idx_main_v90 (idx_main_v91 (ix1 n)) = ix2 n 1 := idx2 _ n 1 (Nat.div_one _) rfl
  rw [val_main_v91_apply, val_main_v90_apply, e, v87_1] <;> rfl

theorem v96 : val_main_v96 (F := Ideal) a.cond a.rand a.W1 a.b1 a.W2 a.b2 (ix1 n) = centre (a.smp n).rX (a.smp n).y := by
  rw [val_main_v96_apply, val_main_v93_apply, v89, val_main_v92_apply, val_main_v95_apply, v91, val_main_v94_apply] <;> rfl

theorem v101 : val_main_v101 (F := Ideal) a.cond a.rand a.W1 a.b1 a.W2 a.b2 (ix1 n) = wide (a.smp n).rX (a.smp n).y := by
  rw [val_main_v101_apply, val_main_v100_apply, val_main_v98_apply, v89, val_main_v99_apply, v91, val_main_v97_apply, v96] <;> rfl

theorem v103 : val_main_v103 (F := Ideal) a.cond a.rand a.W1 a.b1 a.W2 a.b2 (ix1 n) = tall (a.smp n).rX (a.smp n).y := by
  rw [val_main_v103_apply, val_main_v102_apply, v101, val_main_v97_apply, v96] <;> rfl

theorem v106 : val_main_v106 (F := Ideal) a.cond a.rand a.W1 a.b1 a.W2 a.b2 (ix1 n) = safe (a.smp n).rX := by
  rw [val_main_v106_apply, val_main_v105_apply, v89, val_main_v104_apply, val_main_call6_v1_apply] <;> rfl

theorem v109 : val_main_v109 (F := Ideal) a.cond a.rand a.W1 a.b1 a.W2 a.b2 (ix1 n) = safe (a.smp n).y := by
  rw [val_main_v109_apply, val_main_v108_apply, v91, val_main_v107_apply, val_main_call7_v1_apply] <;> rfl

theorem v112 : val_main_v112 (F := Ideal) a.cond a.rand a.W1 a.b1 a.W2 a.b2 (ix1 n) = (a.smp n).rAngW := by
  rw [val_main_v112_apply, val_main_v111_apply, val_main_v110_apply, v91, v106] <;> rfl

theorem v114 : val_main_v114 (F := Ideal) a.cond a.rand a.W1 a.b1 a.W2 a.b2 (ix1 n) = (a.smp n).rX * Ideal.cos (a.smp n).rAngW := by
  rw [val_main_v114_apply, v89, val_main_v113_apply, v112] <;> rfl

theorem v116 : val_main_v116 (F := Ideal) a.cond a.rand a.W1 a.b1 a.W2 a.b2 (ix1 n) = (a.smp n).rX * Ideal.sin (a.smp n).rAngW := by
  rw [val_main_v116_apply, v89, val_main_v115_apply, v112] <;> rfl

theorem v117 : val_main_v117 (F := Ideal) a.cond a.rand a.W1 a.b1 a.W2 a.b2 (ix2 n 0) = (a.smp n).rX * Ideal.cos (a.smp n).rAngW := by
  have e : idx_main_v117 (ix2 n 0) = ix1 n := idx1 _ n rfl
  rw [val_main_v117_apply, e, v114] <;> rfl

theorem v118 : val_main_v118 (F := Ideal) a.cond a.rand a.W1 a.b1 a.W2 a.b2 (ix2 n 0) = (a.smp n).rX * Ideal.sin (a.smp n).rAngW := by
  have e : idx_main_v118 (ix2 n 0) = ix1 n := idx1 _ n rfl
  rw [val_main_v118_apply, e, v116] <;> rfl

theorem v119_0 : val_main_v119 (F := Ideal) a.cond a.rand a.W1 a.b1 a.W2 a.b2 (ix2 n 0) = (a.smp n).rX * Ideal.cos (a.smp n).rAngW := by
  unfold val_main_v119
  exact (cat2_0 _ _ _ n).trans (v117 a n)

theorem v119_1 : val_main_v119 (F := Ideal) a.cond a.rand a.W1 a.b1 a.W2 a.b2 (ix2 n 1) = (a.smp n).rX * Ideal.sin (a.smp n).rAngW := by
  unfold val_main_v119
  exact (cat2_1 _ _ _ n).trans (v118 a n)

theorem v124 : val_main_v124 (F := Ideal) a.cond a.rand a.W1 a.b1 a.W2 a.b2 (ix1 n) = (a.smp n).rAngT := by
  rw [val_main_v124_apply, val_main_v123_apply, val_main_v122_apply, val_main_v121_apply, val_main_v120_apply, v89, v109] <;> rfl

theorem v126 : val_main_v126 (F := Ideal) a.cond a.rand a.W1 a.b1 a.W2 a.b2 (ix1 n) = (a.smp n).y * Ideal.cos (a.smp n).rAngT := by
  rw [val_main_v126_apply, v91, val_main_v125_apply, v124] <;> rfl

theorem v128 : val_main_v128 (F := Ideal) a.cond a.rand a.W1 a.b1 a.W2 a.b2 (ix1 n) = (a.smp n).y * Ideal.sin (a.smp n).rAngT := by
  rw [val_main_v128_apply, v91, val_main_v127_apply, v124] <;> rfl

theorem v129 : val_main_v129 (F := Ideal) a.cond a.rand a.W1 a.b1 a.W2 a.b2 (ix2 n 0) = (a.smp n).y * Ideal.cos (a.smp n).rAngT := by
  have e : idx_main_v129 (ix2 n 0) = ix1 n := idx1 _ n rfl
  rw [val_main_v129_apply, e, v126] <;> rfl

theorem v130 : val_main_v130 (F := Ideal) a.cond a.rand a.W1 a.b1 a.W2 a.b2 (ix2 n 0) = (a.smp n).y * Ideal.sin (a.smp n).rAngT := by
  have e : idx_main_v130 (ix2 n 0) = ix1 n := idx1 _ n rfl
  rw [val_main_v130_apply, e, v128] <;> rfl

theorem v131_0 : val_main_v131 (F := Ideal) a.cond a.rand a.W1 a.b1 a.W2 a.b2 (ix2 n 0) = (a.smp n).y * Ideal.cos (a.smp n).rAngT := by
  unfold val_main_v131
  exact (cat2_0 _ _ _ n).trans (v129 a n)

theorem v131_1 : val_main_v131 (F := Ideal) a.cond a.rand a.W1 a.b1 a.W2 a.b2 (ix2 n 1) = (a.smp n).y * Ideal.sin (a.smp n).rAngT := by
  unfold val_main_v131
  exact (cat2_1 _ _ _ n).trans (v130 a n)

theorem v132 : val_main_v132 (F := Ideal) a.cond a.rand a.W1 a.b1 a.W2 a.b2 (ix2 n 0) = wide (a.smp n).rX (a.smp n).y := by
  have e : idx_main_v132 (ix2 n 0) = ix1 n := idx1 _ n rfl
  rw [val_main_v132_apply, e, v101] <;> rfl

theorem v133 : val_main_v133 (F := Ideal) a.cond a.rand a.W1 a.b1 a.W2 a.b2 (ix2 n 0) = tall (a.smp n).rX (a.smp n).y := by
  have e : idx_main_v133 (ix2 n 0) = ix1 n := idx1 _ n rfl
  rw [val_main_v133_apply, e, v103] <;> rfl

theorem v136 : val_main_v136 (F := Ideal) a.cond a.rand a.W1 a.b1 a.W2 a.b2 (ix2 n 0) = (a.smp n).lam := by
  have e : idx_main_v136 (ix2 n 0) = ix1 n := idx1 _ n rfl
  rw [val_main_v136_apply, e, v32] <;> rfl

theorem call8_v1 (j : Fin 2) : val_main_call8_v1 (F := Ideal) a.cond a.rand a.W1 a.b1 a.W2 a.b2 (ix2 n j) = tall (a.smp n).rX (a.smp n).y := by
  have e : idx_main_call8_v1 (ix2 n j) = ix2 n 0 := idx2 _ n 0 rfl rfl
  rw [val_main_call8_v1_apply, e, v133] <;> rfl

theorem call9_v0 (j : Fin 2) : val_main_call9_v0 (F := Ideal) a.cond a.rand a.W1 a.b1 a.W2 a.b2 (ix2 n j) = wide (a.smp n).rX (a.smp n).y := by
  have e : idx_main_call9_v0 (ix2 n j) = ix2 n 0 := idx2 _ n 0 rfl rfl
  rw [val_main_call9_v0_apply, e, v132] <;> rfl

theorem call10_v0 (j : Fin 2) : val_main_call10_v0 (F := Ideal) a.cond a.rand a.W1 a.b1 a.W2 a.b2 (ix2 n j) = (a.smp n).lam := by
  have e : idx_main_call10_v0 (ix2 n j) = ix2 n 0 := idx2 _ n 0 rfl rfl
  rw [val_main_call10_v0_apply, e, v136] <;> rfl

/-- The reference's first result, coordinate 0. -/
theorem v137_0 : val_main_v137 (F := Ideal) a.cond a.rand a.W1 a.b1 a.W2 a.b2 (ix2 n 0) = (a.smp n).rZ0 := by
  rw [val_main_v137_apply, call10_v0, val_main_v135_apply, call9_v0, v119_0, val_main_v134_apply, call8_v1, v131_0, val_main_call8_v2_apply, v80_0] <;> rfl

/-- The reference's first result, coordinate 1. -/
theorem v137_1 : val_main_v137 (F := Ideal) a.cond a.rand a.W1 a.b1 a.W2 a.b2 (ix2 n 1) = (a.smp n).rZ1 := by
  rw [val_main_v137_apply, call10_v0, val_main_v135_apply, call9_v0, v119_1, val_main_v134_apply, call8_v1, v131_1, val_main_call8_v2_apply, v80_1] <;> rfl

/-! ### The log density -/

theorem v142_00 : val_main_v142 (F := Ideal) a.cond a.rand a.W1 a.b1 a.W2 a.b2 (ix3 n 0 0)
    = Ideal.div ((a.smp n).rZ0 - (a.smp n).o 0) (Ideal.exp ((a.smp n).o 4)) := by
  have e : idx_main_v138 (idx_main_v139 (ix3 n 0 0)) = ix2 n 0 := idx2 _ n 0 rfl rfl
  rw [val_main_v142_apply, val_main_v140_apply, val_main_v139_apply, val_main_v138_apply, e, v137_0, v11,
    val_main_v141_apply, v13] <;> rfl

theorem v142_01 : val_main_v142 (F := Ideal) a.cond a.rand a.W1 a.b1 a.W2 a.b2 (ix3 n 0 1)
    = Ideal.div ((a.smp n).rZ1 - (a.smp n).o 1) (Ideal.exp ((a.smp n).o 5)) := by
  have e : idx_main_v138 (idx_main_v139 (ix3 n 0 1)) = ix2 n 1 := idx2 _ n 1 rfl rfl
  rw [val_main_v142_apply, val_main_v140_apply, val_main_v139_apply, val_main_v138_apply, e, v137_1, v11,
    val_main_v141_apply, v13] <;> rfl

theorem v142_10 : val_main_v142 (F := Ideal) a.cond a.rand a.W1 a.b1 a.W2 a.b2 (ix3 n 1 0)
    = Ideal.div ((a.smp n).rZ0 - (a.smp n).o 2) (Ideal.exp ((a.smp n).o 6)) := by
  have e : idx_main_v138 (idx_main_v139 (ix3 n 1 0)) = ix2 n 0 := idx2 _ n 0 rfl rfl
  rw [val_main_v142_apply, val_main_v140_apply, val_main_v139_apply, val_main_v138_apply, e, v137_0, v11,
    val_main_v141_apply, v13] <;> rfl

theorem v142_11 : val_main_v142 (F := Ideal) a.cond a.rand a.W1 a.b1 a.W2 a.b2 (ix3 n 1 1)
    = Ideal.div ((a.smp n).rZ1 - (a.smp n).o 3) (Ideal.exp ((a.smp n).o 7)) := by
  have e : idx_main_v138 (idx_main_v139 (ix3 n 1 1)) = ix2 n 1 := idx2 _ n 1 rfl rfl
  rw [val_main_v142_apply, val_main_v140_apply, val_main_v139_apply, val_main_v138_apply, e, v137_1, v11,
    val_main_v141_apply, v13] <;> rfl

theorem v150_0 : val_main_v150 (F := Ideal) a.cond a.rand a.W1 a.b1 a.W2 a.b2 (ix2 n 0)
    = (Ideal.div ((a.smp n).rZ0 - (a.smp n).o 0) (Ideal.exp ((a.smp n).o 4))) * (Ideal.div ((a.smp n).rZ0 - (a.smp n).o 0) (Ideal.exp ((a.smp n).o 4)))
      + (Ideal.div ((a.smp n).rZ1 - (a.smp n).o 1) (Ideal.exp ((a.smp n).o 5))) * (Ideal.div ((a.smp n).rZ1 - (a.smp n).o 1) (Ideal.exp ((a.smp n).o 5))) := by
  have e : ∀ k : Fin 2, idx_main_v150 (ix2 n 0) k = ix3 n 0 k := fun k => idx3 _ n 0 k rfl rfl rfl
  rw [val_main_v150_apply, Fin.sum_univ_two, e, e, val_main_v149_apply, val_main_v149_apply, v142_00, v142_01]
  exact (congrArg (· + _) cZero_eq).trans (zero_add _)

theorem v154_0 : val_main_v154 (F := Ideal) a.cond a.W1 a.b1 a.W2 a.b2 (ix2 n 0) = (a.smp n).o 4 + (a.smp n).o 5 := by
  have e : ∀ k : Fin 2, idx_main_v154 (ix2 n 0) k = ix3 n 0 k := fun k => idx3 _ n 0 k rfl rfl rfl
  rw [val_main_v154_apply, Fin.sum_univ_two, e, e, v13, v13]
  exact (congrArg (· + _) cZero_eq).trans (zero_add _)

/-- Gaussian 0's log density. -/
theorem v155_0 : val_main_v155 (F := Ideal) a.cond a.rand a.W1 a.b1 a.W2 a.b2 (ix2 n 0)
    = rGauss (a.smp n).w0 ((a.smp n).o 0) ((a.smp n).o 1) ((a.smp n).o 4) ((a.smp n).o 5) (a.smp n).rZ0 (a.smp n).rZ1 := by
  have e : idx_main_v143 (ix2 n 0) = ix2 n 0 := idx2 _ n 0 rfl rfl
  rw [val_main_v155_apply, val_main_v153_apply, val_main_v148_apply, val_main_v147_apply, val_main_v146_apply,
    val_main_v145_apply, val_main_v143_apply, e, v19, val_main_v144_apply, val_main_v152_apply, val_main_v151_apply,
    v150_0, v154_0] <;> rfl

theorem v150_1 : val_main_v150 (F := Ideal) a.cond a.rand a.W1 a.b1 a.W2 a.b2 (ix2 n 1)
    = (Ideal.div ((a.smp n).rZ0 - (a.smp n).o 2) (Ideal.exp ((a.smp n).o 6))) * (Ideal.div ((a.smp n).rZ0 - (a.smp n).o 2) (Ideal.exp ((a.smp n).o 6)))
      + (Ideal.div ((a.smp n).rZ1 - (a.smp n).o 3) (Ideal.exp ((a.smp n).o 7))) * (Ideal.div ((a.smp n).rZ1 - (a.smp n).o 3) (Ideal.exp ((a.smp n).o 7))) := by
  have e : ∀ k : Fin 2, idx_main_v150 (ix2 n 1) k = ix3 n 1 k := fun k => idx3 _ n 1 k rfl rfl rfl
  rw [val_main_v150_apply, Fin.sum_univ_two, e, e, val_main_v149_apply, val_main_v149_apply, v142_10, v142_11]
  exact (congrArg (· + _) cZero_eq).trans (zero_add _)

theorem v154_1 : val_main_v154 (F := Ideal) a.cond a.W1 a.b1 a.W2 a.b2 (ix2 n 1) = (a.smp n).o 6 + (a.smp n).o 7 := by
  have e : ∀ k : Fin 2, idx_main_v154 (ix2 n 1) k = ix3 n 1 k := fun k => idx3 _ n 1 k rfl rfl rfl
  rw [val_main_v154_apply, Fin.sum_univ_two, e, e, v13, v13]
  exact (congrArg (· + _) cZero_eq).trans (zero_add _)

/-- Gaussian 1's log density. -/
theorem v155_1 : val_main_v155 (F := Ideal) a.cond a.rand a.W1 a.b1 a.W2 a.b2 (ix2 n 1)
    = rGauss (a.smp n).w1 ((a.smp n).o 2) ((a.smp n).o 3) ((a.smp n).o 6) ((a.smp n).o 7) (a.smp n).rZ0 (a.smp n).rZ1 := by
  have e : idx_main_v143 (ix2 n 1) = ix2 n 1 := idx2 _ n 1 rfl rfl
  rw [val_main_v155_apply, val_main_v153_apply, val_main_v148_apply, val_main_v147_apply, val_main_v146_apply,
    val_main_v145_apply, val_main_v143_apply, e, v19, val_main_v144_apply, val_main_v152_apply, val_main_v151_apply,
    v150_1, v154_1] <;> rfl

theorem v157 : val_main_v157 (F := Ideal) a.cond a.rand a.W1 a.b1 a.W2 a.b2 (ix1 n) = (a.smp n).rZ0 := by
  have e : idx_main_v156 (idx_main_v157 (ix1 n)) = ix2 n 0 := idx2 _ n 0 (Nat.div_one _) rfl
  rw [val_main_v157_apply, val_main_v156_apply, e, v137_0] <;> rfl

theorem v160 : val_main_v160 (F := Ideal) a.cond a.rand a.W1 a.b1 a.W2 a.b2 (ix1 n) = (a.smp n).rZ1 := by
  have e : idx_main_v159 (idx_main_v160 (ix1 n)) = ix2 n 1 := idx2 _ n 1 (Nat.div_one _) rfl
  rw [val_main_v160_apply, val_main_v159_apply, e, v137_1] <;> rfl

theorem v164 : val_main_v164 (F := Ideal) a.cond a.rand a.W1 a.b1 a.W2 a.b2 (ix1 n) = outside (a.smp n).rZ0 (a.smp n).rZ1 := by
  rw [val_main_v164_apply, val_main_v162_apply, val_main_v158_apply, v157, val_main_v161_apply, v160, val_main_v163_apply] <;> rfl

theorem v168 : val_main_v168 (F := Ideal) a.cond a.rand a.W1 a.b1 a.W2 a.b2 (ix1 n) = Ideal.log (Scalar.select (outside (a.smp n).rZ0 (a.smp n).rZ1) cZero cPdf + cEps) := by
  rw [val_main_v168_apply, val_main_v167_apply, val_main_v165_apply, v164, val_main_call11_v0_apply, val_main_call11_v1_apply, val_main_v166_apply] <;> rfl

theorem v170 : val_main_v170 (F := Ideal) a.cond a.W1 a.b1 a.W2 a.b2 (ix1 n) = (a.smp n).w2 := by
  have e : idx_main_v169 (idx_main_v170 (ix1 n)) = ix2 n 2 := idx2 _ n 2 (Nat.div_one _) rfl
  rw [val_main_v170_apply, val_main_v169_apply, e, v19] <;> rfl

/-- The lambert lobe's log density. -/
theorem v173 : val_main_v173 (F := Ideal) a.cond a.rand a.W1 a.b1 a.W2 a.b2 (ix1 n) = rLamb (a.smp n).w2 (a.smp n).rZ0 (a.smp n).rZ1 := by
  rw [val_main_v173_apply, val_main_v172_apply, v168, val_main_v171_apply, v170] <;> rfl

theorem v174 : val_main_v174 (F := Ideal) a.cond a.rand a.W1 a.b1 a.W2 a.b2 (ix2 n 0) = rLamb (a.smp n).w2 (a.smp n).rZ0 (a.smp n).rZ1 := by
  have e : idx_main_v174 (ix2 n 0) = ix1 n := idx1 _ n rfl
  rw [val_main_v174_apply, e, v173] <;> rfl

/-- The reference's second result. -/
theorem v178 : val_main_v178 (F := Ideal) a.cond a.rand a.W1 a.b1 a.W2 a.b2 (ix1 n) = (a.smp n).rLp := by
  have e : ∀ k : Fin 3, idx_main_v177 (ix1 n) k = ix2 n k := fun k => idx2 _ n k rfl rfl
  have h0 : val_main_v175 (F := Ideal) a.cond a.rand a.W1 a.b1 a.W2 a.b2 (ix2 n 0)
      = rGauss (a.smp n).w0 ((a.smp n).o 0) ((a.smp n).o 1) ((a.smp n).o 4) ((a.smp n).o 5) (a.smp n).rZ0 (a.smp n).rZ1 := by
    unfold val_main_v175
    exact (cat3_left _ _ _ n 0 0 rfl).trans (v155_0 a n)
  have h1 : val_main_v175 (F := Ideal) a.cond a.rand a.W1 a.b1 a.W2 a.b2 (ix2 n 1)
      = rGauss (a.smp n).w1 ((a.smp n).o 2) ((a.smp n).o 3) ((a.smp n).o 6) ((a.smp n).o 7) (a.smp n).rZ0 (a.smp n).rZ1 := by
    unfold val_main_v175
    exact (cat3_left _ _ _ n 1 1 rfl).trans (v155_1 a n)
  have h2 : val_main_v175 (F := Ideal) a.cond a.rand a.W1 a.b1 a.W2 a.b2 (ix2 n 2)
      = rLamb (a.smp n).w2 (a.smp n).rZ0 (a.smp n).rZ1 := by
    unfold val_main_v175
    exact (cat3_right _ _ _ n).trans (v174 a n)
  rw [val_main_v178_apply, val_main_v177_apply, Fin.sum_univ_three, e, e, e, val_main_v176_apply, val_main_v176_apply,
    val_main_v176_apply, h0, h1, h2]
  exact congrArg Ideal.log ((congrArg (· + _) cZero_eq).trans (zero_add _))

end Cert.Ref

end
-- ==== Proof.Mask.lean ====
/- The mask `unclipped`, read at a sample: where it is set for the first result, a Gaussian's rescaled random number lies
   inside the kernel's clip; where it is set for the second, the network's outputs are finite as well. -/
module

public import proofs.«01_k».proof.Proof.Ref
public import proofs.«01_k».proof.Proof.Gen.ReferenceIdeal
public import proofs.«01_k».proof.Proof.Gen.On_unclipped

@[expose] public section

noncomputable section

namespace Cert.Sample

open Idealize.ShloMosaic
open scoped BigOperators

variable (s : Sample)

/-- The random number rescaled by the first or the second Gaussian's weight. -/
def mU : EReal := Scalar.select s.g1 (Ideal.div s.rd s.w0) (Ideal.div (s.rd - s.w0) s.w1)

/-- The sum of the outputs' magnitudes is finite. -/
def mFin : BitVec 1 := Ideal.cmp .olt (cZero + ∑ j : Fin 11, s.mag j) (Ideal.ofBits .f32 0x7F800000#32)

/-- The first result's mask at the sample. -/
def free : BitVec 1 := ~~~s.gs ||| (Ideal.cmp .oge s.mU cLo &&& Ideal.cmp .ole s.mU cHi)

/-- The second result's mask at the sample. -/
def mask : BitVec 1 := s.mFin &&& s.free

theorem mag_nonneg (j : Fin 11) : 0 ≤ s.mag j := by
  unfold mag
  rcases le_total 0 (s.o j) with h | h
  · exact le_max_of_le_left h
  · exact le_max_of_le_right (EReal.neg_nonneg.mpr h)

theorem ofBits_top : Ideal.ofBits .f32 0x7F800000#32 = ⊤ := by simp [Ideal.ofBits, Ideal.ieee]

theorem and_one {a b : BitVec 1} (h : a &&& b = 1#1) : a = 1#1 ∧ b = 1#1 := by
  revert a b; decide

/-- A finite sum of magnitudes has finite outputs. -/
theorem finite_of_mFin (h : s.mFin = 1#1) : s.Finite := by
  unfold mFin at h
  rw [ofBits_top, cZero_eq, zero_add] at h
  have hs : (∑ j : Fin 11, s.mag j) < ⊤ := by
    by_contra hc
    rw [show Ideal.cmp .olt (∑ j : Fin 11, s.mag j) ⊤ = 0#1 by
      show BitVec.ofBool (decide ((∑ j : Fin 11, s.mag j) < ⊤)) = 0#1
      rw [decide_eq_false hc]; rfl] at h
    exact absurd h (by decide)
  intro j
  have hj : s.mag j < ⊤ := lt_of_le_of_lt (Finset.single_le_sum (fun i _ => s.mag_nonneg i) (Finset.mem_univ j)) hs
  unfold mag at hj
  have h1 := lt_of_le_of_lt (le_max_left _ _) hj
  have h2 := lt_of_le_of_lt (le_max_right _ _) hj
  refine ⟨ne_of_lt h1, fun hb => ?_⟩
  rw [hb, EReal.neg_bot] at h2
  exact lt_irrefl _ h2

/-- Where the sample is a Gaussian's, the two rescalings agree. -/
theorem mU_eq (h : s.gs = 1#1) : s.mU = s.rU := by
  unfold mU rU
  unfold gs at h
  rcases bit_cases s.g1 with h1 | h1
  · rcases bit_cases s.g2 with h2 | h2
    · rw [h1, h2] at h; exact absurd h (by decide)
    · rw [h1, h2]; rfl
  · rw [h1]; rfl

/-- Where the second result's mask is set, the outputs are finite. -/
theorem mask_finite (h : s.mask = 1#1) : s.Finite := s.finite_of_mFin (and_one h).1

/-- Where the second result's mask is set, so is the first's. -/
theorem mask_free (h : s.mask = 1#1) : s.free = 1#1 := (and_one h).2

/-- Where the first result's mask is set, the clip moves nothing. -/
theorem free_inside (h : s.free = 1#1) : s.Inside := by
  intro hg
  have h2 := h
  unfold free at h2
  rw [show s.gs = 1#1 from hg, s.mU_eq hg] at h2
  have h3 : Ideal.cmp .oge s.rU cLo &&& Ideal.cmp .ole s.rU cHi = 1#1 := by
    revert h2
    generalize Ideal.cmp .oge s.rU cLo &&& Ideal.cmp .ole s.rU cHi = q
    revert q; decide
  obtain ⟨hl, hh⟩ := and_one h3
  constructor
  · by_contra hc
    rw [show Ideal.cmp .oge s.rU cLo = 0#1 by
      show BitVec.ofBool (decide (cLo ≤ s.rU)) = 0#1
      rw [decide_eq_false hc]; rfl] at hl
    exact absurd hl (by decide)
  · by_contra hc
    rw [show Ideal.cmp .ole s.rU cHi = 0#1 by
      show BitVec.ofBool (decide (s.rU ≤ cHi)) = 0#1
      rw [decide_eq_false hc]; rfl] at hh
    exact absurd hh (by decide)

end Cert.Sample

namespace Cert.Mask

open Idealize.ShloMosaic Idealize.ShloMosaic.TcCoe Idealize.ShloMosaic.ValueIdx Idealize.ShloMosaic.StableHlo
open Cert.ReferenceIdeal Cert.ReferenceIdeal.Gen Cert.ReferenceIdeal.Read Cert.Sample
open scoped BigOperators

variable (a : Args) (x6 : IVec S_ 32) (n : Fin 2097152)

/-- The sum of the magnitudes of the network's outputs. -/
theorem sum_mag (h : S2097152x11.ReducesTo [1] S2097152) (hu : 0 < S_.numel) :
    Host.reduceAdd (F := Ideal) (Host.absf (val_main_v9 (F := Ideal) a.cond a.W1 a.b1 a.W2 a.b2)) (constant S_ .f32 0x00000000#32) h hu (ix1 n)
      = cZero + ∑ j : Fin 11, (a.smp n).mag j := by
  have hy : ∀ j : Fin 11, Host.absf (F := Ideal) (φ := .f32) (val_main_v9 (F := Ideal) a.cond a.W1 a.b1 a.W2 a.b2) (ix2 n j)
      = (a.smp n).mag j := fun j => congrArg (fun q : EReal => max q (-q)) (Ref.v9 a n j)
  generalize Host.absf (F := Ideal) (φ := .f32) (val_main_v9 (F := Ideal) a.cond a.W1 a.b1 a.W2 a.b2) = y at hy ⊢
  simp only [Host.reduceAdd, Ideal.hostReduceAdd_def]
  rw [Ideal.hostReduceAdd_single h (by decide)]
  refine congrArg (cZero + ·) (Finset.sum_congr rfl fun k _ => ?_)
  exact (congrArg y (Ref.idx2 _ n k rfl rfl)).trans (hy k)

/-- The rescaled random number the mask reads. -/
abbrev quot : FVec Ideal S2097152 .f32 :=
  select (val_main_v25 (F := Ideal) a.cond a.rand a.W1 a.b1 a.W2 a.b2) (val_main_v35 (F := Ideal) a.cond a.rand a.W1 a.b1 a.W2 a.b2)
    (val_main_v41 (F := Ideal) a.cond a.rand a.W1 a.b1 a.W2 a.b2)

/-- A sample is no Gaussian's or its random number is inside the clip, written with the reference's stages. -/
abbrev within : IVec S2097152 1 :=
  ori (noti (val_main_v31 (F := Ideal) a.cond a.rand a.W1 a.b1 a.W2 a.b2))
    (andi (cmpf .oge (quot a)
        (broadcastInDim S2097152 ![] Cert.On_unclipped.Facts.bcast_S_S2097152 (constant (F := Ideal) S_ .f32 0x2B8CBCCC#32)))
      (cmpf .ole (quot a)
        (broadcastInDim S2097152 ![] Cert.On_unclipped.Facts.bcast_S_S2097152 (constant (F := Ideal) S_ .f32 0x3F7FFFFE#32))))

/-- The network's outputs for a sample are finite, written with the reference's stages. -/
abbrev fin : IVec S2097152 1 :=
  cmpf .olt
    (Host.reduceAdd (F := Ideal) (φ := .f32) (Host.absf (F := Ideal) (φ := .f32) (val_main_v9 (F := Ideal) a.cond a.W1 a.b1 a.W2 a.b2))
      (constant (F := Ideal) S_ .f32 0x00000000#32) Cert.On_unclipped.Facts.reducesTo_S2097152x11_S2097152_d1 Cert.On_unclipped.Facts.h_S_)
    (broadcastInDim S2097152 ![] Cert.On_unclipped.Facts.bcast_S_S2097152 (constant (F := Ideal) S_ .f32 0x7F800000#32))

theorem fn_eq : Cert.On_unclipped.fn (F := Ideal) a.cond a.rand a.W1 a.b1 a.W2 a.b2 x6
    = (concatenate S2097152x2 1
        [⟨S2097152x1, broadcastInDim S2097152x1 ![0] Cert.On_unclipped.Facts.bcast_S2097152_S2097152x1_0 (within a)⟩,
          ⟨S2097152x1, broadcastInDim S2097152x1 ![0] Cert.On_unclipped.Facts.bcast_S2097152_S2097152x1_0 (within a)⟩]
        Cert.On_unclipped.Facts.concatenates_S2097152x1_S2097152x1_S2097152x2_d1, andi (fin a) (within a)) := by
  unfold Cert.On_unclipped.fn Cert.On_unclipped.fn_part1 Cert.On_unclipped.fn_part2
  rfl

theorem within_apply : within a (ix1 n) = (a.smp n).free := by
  have h1 := Ref.v31 a n
  have hq : quot a (ix1 n) = (a.smp n).mU := by
    show Scalar.select (val_main_v25 (F := Ideal) a.cond a.rand a.W1 a.b1 a.W2 a.b2 (ix1 n)) (val_main_v35 (F := Ideal) a.cond a.rand a.W1 a.b1 a.W2 a.b2 (ix1 n))
      (val_main_v41 (F := Ideal) a.cond a.rand a.W1 a.b1 a.W2 a.b2 (ix1 n)) = _
    rw [Ref.v25, Ref.v35, Ref.v41] <;> rfl
  unfold within
  generalize val_main_v31 (F := Ideal) a.cond a.rand a.W1 a.b1 a.W2 a.b2 = y1 at h1 ⊢
  generalize quot a = y2 at hq ⊢
  unfold Sample.free
  rw [← h1, ← hq]
  rfl

theorem fin_apply : fin a (ix1 n) = (a.smp n).mFin := by
  have h0 := sum_mag a n Cert.On_unclipped.Facts.reducesTo_S2097152x11_S2097152_d1 Cert.On_unclipped.Facts.h_S_
  unfold fin
  generalize Host.reduceAdd (F := Ideal) (φ := .f32) (Host.absf (F := Ideal) (φ := .f32) (val_main_v9 (F := Ideal) a.cond a.W1 a.b1 a.W2 a.b2))
    (constant (F := Ideal) S_ .f32 0x00000000#32) Cert.On_unclipped.Facts.reducesTo_S2097152x11_S2097152_d1 Cert.On_unclipped.Facts.h_S_ = y0 at h0 ⊢
  unfold Sample.mFin
  rw [← h0]
  rfl

/-- The mask of the second result. -/
theorem fn_2 : (Cert.On_unclipped.fn (F := Ideal) a.cond a.rand a.W1 a.b1 a.W2 a.b2 x6).2 (ix1 n) = (a.smp n).mask := by
  have h := within_apply a n
  have h' := fin_apply a n
  rw [fn_eq]
  generalize within a = y at h ⊢
  generalize fin a = y' at h' ⊢
  unfold Sample.mask
  rw [← h, ← h']
  rfl

theorem column (y : IVec S2097152 1) (h : S2097152.BroadcastsInDim S2097152x1 (![0] : Fin 1 → Fin 2)) :
    broadcastInDim S2097152x1 ![0] h y (ix2 n 0) = y (ix1 n) :=
  broadcastInDim_apply (s := S2097152) (t := S2097152x1) _ h y (ix2 n 0) (ix1 n) (fun b => match b with
    | ⟨0, _⟩ => by show n.val = if (2097152 : Nat) = 1 then 0 else n.val; rw [if_neg (by decide)])

/-- The mask of the first result, first coordinate. -/
theorem fn_1_0 : (Cert.On_unclipped.fn (F := Ideal) a.cond a.rand a.W1 a.b1 a.W2 a.b2 x6).1 (ix2 n 0) = (a.smp n).free := by
  have h := within_apply a n
  rw [fn_eq]
  generalize within a = y at h ⊢
  dsimp only
  rw [Ref.cat2_0, column, h]

/-- The mask of the first result, second coordinate. -/
theorem fn_1_1 : (Cert.On_unclipped.fn (F := Ideal) a.cond a.rand a.W1 a.b1 a.W2 a.b2 x6).1 (ix2 n 1) = (a.smp n).free := by
  have h := within_apply a n
  rw [fn_eq]
  generalize within a = y at h ⊢
  dsimp only
  rw [Ref.cat2_1, column, h]

end Cert.Mask

end
-- ==== Proof.Claims.lean ====
/- The five claims: the three frames, the named constants, and the equality of the results under the mask. -/
module

public import proofs.«01_k».proof.Defs
public import proofs.«01_k».proof.Proof.Array
public import proofs.«01_k».proof.Proof.Mask
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.KernelIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_unclipped
public import Idealize.ShloMosaic.Lib.Quiescent

@[expose] public section

noncomputable section

namespace Cert.Proof

open Idealize.ShloMosaic Idealize.ShloMosaic.TcCoe Idealize.ShloMosaic.ValueIdx Idealize.SL.Sem

/-! ### The results at a masked index -/

section Values

variable (m : (ℓ : Loc Cert.KernelIdeal.nD Cert.KernelIdeal.τ Cert.KernelIdeal.sig) → Buf (Elt Ideal) ℓ) (c : Dev Cert.KernelIdeal.nD)

/-- Where the mask of the first result is set, the reference's first result is the kernel's. -/
theorem first_eq (a : Args) (ha : a = Array.args m c) (x6 : IVec ⟨0, ![]⟩ 32) (i : (⟨2, ![2097152, 2]⟩ : Shape).Idx)
    (h : (Cert.On_unclipped.fn (F := Ideal) a.cond a.rand a.W1 a.b1 a.W2 a.b2 x6).1 i = 1#1) :
    Cert.ReferenceIdeal.Read.val_main_v137 (F := Ideal) a.cond a.rand a.W1 a.b1 a.W2 a.b2 i
      = Cert.KernelIdeal.Read.val_main_v13 (F := Ideal) (Cert.KernelIdeal.Value.reg_main_v10_0 m c) i := by
  obtain ⟨n, j, rfl⟩ : ∃ n j, i = ix2 n j := ⟨_, _, eq_ix2 i⟩
  match j with
  | ⟨0, _⟩ =>
    have hi := (a.smp n).free_inside ((Mask.fn_1_0 a x6 n).symm.trans h)
    exact (Ref.v137_0 a n).trans ((Sample.kZ0_eq (s := a.smp n) hi).symm.trans (by rw [ha]; exact (Array.res1_0 m c n).symm))
  | ⟨1, _⟩ =>
    have hi := (a.smp n).free_inside ((Mask.fn_1_1 a x6 n).symm.trans h)
    exact (Ref.v137_1 a n).trans ((Sample.kZ1_eq (s := a.smp n) hi).symm.trans (by rw [ha]; exact (Array.res1_1 m c n).symm))

/-- Where the mask of the second result is set, the reference's second result is the kernel's. -/
theorem second_eq (a : Args) (ha : a = Array.args m c) (x6 : IVec ⟨0, ![]⟩ 32) (i : (⟨1, ![2097152]⟩ : Shape).Idx)
    (h : (Cert.On_unclipped.fn (F := Ideal) a.cond a.rand a.W1 a.b1 a.W2 a.b2 x6).2 i = 1#1) :
    Cert.ReferenceIdeal.Read.val_main_v178 (F := Ideal) a.cond a.rand a.W1 a.b1 a.W2 a.b2 i
      = Cert.KernelIdeal.Read.val_main_v14 (F := Ideal) (Cert.KernelIdeal.Value.reg_main_v10_1 m c) i := by
  obtain ⟨n, rfl⟩ : ∃ n, i = ix1 n := ⟨_, eq_ix1 i⟩
  have hm := (Mask.fn_2 a x6 n).symm.trans h
  exact (Ref.v178 a n).trans ((Sample.kLp_eq (s := a.smp n) ((a.smp n).mask_finite hm) ((a.smp n).free_inside ((a.smp n).mask_free hm))).symm.trans
    (by rw [ha]; exact (Array.res2 m c n).symm))

end Values

/-! ### The claims -/

/-- The kernel runs, leaves its arguments as they were and every semaphore at zero. -/
theorem frame_p : Cert.quiescent_Kernel := fun m ρ _ => Cert.Kernel.Gen.frame m ρ

/-- The idealized kernel likewise. -/
theorem frame_pi : Cert.quiescent_KernelIdeal := fun m ρ _ => Cert.KernelIdeal.Gen.frame m ρ

/-- The reference likewise. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each of the two named constants rounds to the literal it stands for. -/
theorem preserves : Cert.preserves_Kernel_KernelIdeal :=
  ⟨IdealRules.named_const.statement Cert.KernelIdeal.κ "log_eps" .f32 0xC13834F1#32
      ((Real.log (2748779 / 274877906944) : ℝ) : EReal) rfl,
    IdealRules.named_const.statement Cert.KernelIdeal.κ "log_pdf" .f32 0xBF92857B#32
      ((Real.log (87499100523 / 274877906944) : ℝ) : EReal) rfl⟩

/-- From equal arguments the idealized kernel and the reference end with equal results wherever the mask is set. -/
theorem algebraic : Cert.algebraic_KernelIdeal_ReferenceIdeal_on_unclipped := by
  intro m g m' g' _ hagree
  refine ⟨fun c => Cert.KernelIdeal.Read.val_main_v13 (F := Ideal) (Cert.KernelIdeal.Value.reg_main_v10_0 m c),
    fun c => Cert.KernelIdeal.Read.val_main_v14 (F := Ideal) (Cert.KernelIdeal.Value.reg_main_v10_1 m c), ?_, ?_⟩
  · exact (θ_run Cert.KernelIdeal.defs _ _).mono
      (fun _ h c => ⟨fun i _ => congrFun (h c).1 i, fun i _ => congrFun (h c).2.1 i, (h c).2.2⟩)
      (Cert.KernelIdeal.Value.run (F := Ideal) m g)
  · refine (θ_run Cert.ReferenceIdeal.defs _ _).mono (fun _ h c => ⟨fun i hi => ?_, fun i hi => ?_, (h c).2.2⟩)
      (Cert.ReferenceIdeal.Value.run (F := Ideal) m' g')
    · have e : _ = Cert.ReferenceIdeal.Read.val_main_v137 (F := Ideal)
            (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
             (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3))
             (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) :=
        (h c).1.trans (Cert.ReferenceIdeal.Read.val_main_v137_eq (StableHlo.launchContents m' c))
      obtain ⟨h0, h1, h2, h3, h4, h5, _⟩ := hagree c
      rw [h0, h1, h2, h3, h4, h5] at e
      exact (congrFun e i).trans (first_eq m c (Array.args m c) rfl _ i hi)
    · have e : _ = Cert.ReferenceIdeal.Read.val_main_v178 (F := Ideal)
            (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
             (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3))
             (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) :=
        (h c).2.1.trans (Cert.ReferenceIdeal.Read.val_main_v178_eq (StableHlo.launchContents m' c))
      obtain ⟨h0, h1, h2, h3, h4, h5, _⟩ := hagree c
      rw [h0, h1, h2, h3, h4, h5] at e
      exact (congrFun e i).trans (second_eq m c (Array.args m c) rfl _ i hi)

end Cert.Proof

end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.KernelIdeal.Read
public import proofs.«01_k».proof.Proof.Gen.ReferenceIdeal.Read
public import proofs.«01_k».proof.Proof.Gen.ReferenceIdeal.Run
public import proofs.«01_k».proof.Proof.Gen.ReferenceIdeal
public import proofs.«01_k».proof.Proof.Gen.On_unclipped
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.On_unclipped.Gen.facts,
    frame_p, frame_pi, frame_ri, preserves, algebraic⟩

end Cert.Proof

end
